-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_grad [hPre_finite_grad : Cert.Pre_finite_grad.Facts] (m : (ℓ : Loc Cert.KernelIdeal.nD Cert.KernelIdeal.τ Cert.KernelIdeal.sig) → Buf (Elt Ideal) ℓ) : Prop :=
  ∀ c : Dev Cert.KernelIdeal.nD,
    (Cert.Pre_finite_grad.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_grad [hPre_finite_grad : Cert.Pre_finite_grad.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_grad.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_grad [hKernelIdeal : Cert.KernelIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_grad m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_grad [hReferenceIdeal : Cert.ReferenceIdeal.Facts] [hPre_finite_grad : Cert.Pre_finite_grad.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_grad m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "alpha" .f32 0x3EA88D5C#32 ((823008727881433516189252065823047014187 / 2500000000000000000000000000000000000000 : ℝ) : EReal)
  ∧ IdealRules.named_const.Statement Cert.KernelIdeal.κ "poly_a" .f32 0x401B1D9B#32 (((Real.sqrt (2 * Real.pi⁻¹)) * (823008727881433516189252065823047014187 / 2500000000000000000000000000000000000000)⁻¹ : ℝ) : EReal)
  ∧ IdealRules.named_const.Statement Cert.KernelIdeal.κ "poly_a_third" .f32 0x3F4ED224#32 (((1 / 3) * ((Real.sqrt (2 * Real.pi⁻¹)) * (823008727881433516189252065823047014187 / 2500000000000000000000000000000000000000)⁻¹) : ℝ) : EReal)
  ∧ IdealRules.named_const.Statement Cert.KernelIdeal.κ "third" .f32 0x3EAAAAAB#32 ((1 / 3 : ℝ) : EReal)

def algebraic_KernelIdeal_ReferenceIdeal_pre_finite_grad [hKernelIdeal : Cert.KernelIdeal.Facts] [hReferenceIdeal : Cert.ReferenceIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_grad m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_grad : Cert.Pre_finite_grad.Facts),
    quiescent_Kernel (hKernel := hKernel)
    ∧ quiescent_KernelIdeal (hKernelIdeal := hKernelIdeal)
    ∧ quiescent_KernelIdeal_pre_finite_grad (hKernelIdeal := hKernelIdeal) (hPre_finite_grad := hPre_finite_grad)
    ∧ quiescent_ReferenceIdeal (hReferenceIdeal := hReferenceIdeal)
    ∧ quiescent_ReferenceIdeal_pre_finite_grad (hReferenceIdeal := hReferenceIdeal) (hPre_finite_grad := hPre_finite_grad)
    ∧ preserves_Kernel_KernelIdeal
    ∧ algebraic_KernelIdeal_ReferenceIdeal_pre_finite_grad (hKernelIdeal := hKernelIdeal) (hReferenceIdeal := hReferenceIdeal) (hPre_finite_grad := hPre_finite_grad)
-- ==== Pre_finite_grad.lean ====
abbrev S65536x2816 : Shape := ⟨2, ![65536, 2816]⟩
abbrev S65536x22 : Shape := ⟨2, ![65536, 22]⟩
abbrev S_ : Shape := ⟨0, ![]⟩

class Facts : Prop where
  bcast_S_S65536x2816 : S_.BroadcastsInDim S65536x2816 (![] : Fin 0 → Fin S65536x2816.rank)

variable [Facts]

def fn {F : FTy → Type} [FloatOps F] (main_arg0 : FVec F S65536x2816 .bf16) (main_arg1 : FVec F S65536x2816 .fp8e4m3) (main_arg2 : FVec F S65536x22 .f32) : IVec S65536x2816 1 :=
  let main_v0 : FVec F S65536x2816 .bf16 := Host.absf main_arg0
  let main_cst : FVec F S_ .bf16 := constant S_ .bf16 0x7F7F#16
  let main_v1 : FVec F S65536x2816 .bf16 := broadcastInDim S65536x2816 ![] bcast_S_S65536x2816 main_cst
  let main_v2 : IVec S65536x2816 1 := cmpf .ole main_v0 main_v1
  main_v2
-- ==== Kernel.lean ====
abbrev S65536x2816 : Shape := ⟨2, ![65536, 2816]⟩
abbrev S65536x22 : Shape := ⟨2, ![65536, 22]⟩
abbrev S1x2816 : Shape := ⟨2, ![1, 2816]⟩
abbrev S2816x65536 : Shape := ⟨2, ![2816, 65536]⟩
abbrev S2816x512 : Shape := ⟨2, ![2816, 512]⟩
abbrev S128x2816 : Shape := ⟨2, ![128, 2816]⟩
abbrev S128x22 : Shape := ⟨2, ![128, 22]⟩
abbrev S2816x128 : Shape := ⟨2, ![2816, 128]⟩
abbrev S128x128 : Shape := ⟨2, ![128, 128]⟩
abbrev S128x22x128 : Shape := ⟨3, ![128, 22, 128]⟩
abbrev S8x2816 : Shape := ⟨2, ![8, 2816]⟩
abbrev S128x1 : Shape := ⟨2, ![128, 1]⟩
abbrev S128 : Shape := ⟨1, ![128]⟩
abbrev S8x128 : Shape := ⟨2, ![8, 128]⟩
abbrev S16x8x128 : Shape := ⟨3, ![16, 8, 128]⟩
abbrev S1x128 : Shape := ⟨2, ![1, 128]⟩
abbrev S1x1x128 : Shape := ⟨3, ![1, 1, 128]⟩
abbrev S128x1x128 : Shape := ⟨3, ![128, 1, 128]⟩
abbrev S2816 : Shape := ⟨1, ![2816]⟩

abbrev nBuf : Space → Nat
  | .hbm => 8
  | .vmem => 19
  | .smem => 0
  | _ => 0

abbrev bufTy : (tb : Table) → Fin (tcTables nBuf tb) → BufTy
  | .hbm, ⟨0, _⟩ => ⟨S65536x2816, .bf16⟩
  | .hbm, ⟨1, _⟩ => ⟨S65536x2816, .fp8e4m3⟩
  | .hbm, ⟨2, _⟩ => ⟨S65536x22, .f32⟩
  | .hbm, ⟨3, _⟩ => ⟨S1x2816, .f32⟩
  | .hbm, ⟨4, _⟩ => ⟨S65536x2816, .fp8e5m2⟩
  | .hbm, ⟨5, _⟩ => ⟨S65536x22, .f32⟩
  | .hbm, ⟨6, _⟩ => ⟨S2816x65536, .fp8e5m2⟩
  | .hbm, ⟨7, _⟩ => ⟨S2816x512, .f32⟩
  | .local _ .vmem, ⟨0, _⟩ => ⟨S128x2816, .bf16⟩
  | .local _ .vmem, ⟨1, _⟩ => ⟨S128x2816, .bf16⟩
  | .local _ .vmem, ⟨2, _⟩ => ⟨S128x2816, .fp8e4m3⟩
  | .local _ .vmem, ⟨3, _⟩ => ⟨S128x2816, .fp8e4m3⟩
  | .local _ .vmem, ⟨4, _⟩ => ⟨S128x22, .f32⟩
  | .local _ .vmem, ⟨5, _⟩ => ⟨S128x22, .f32⟩
  | .local _ .vmem, ⟨6, _⟩ => ⟨S1x2816, .f32⟩
  | .local _ .vmem, ⟨7, _⟩ => ⟨S128x2816, .fp8e5m2⟩
  | .local _ .vmem, ⟨8, _⟩ => ⟨S128x2816, .fp8e5m2⟩
  | .local _ .vmem, ⟨9, _⟩ => ⟨S128x22, .f32⟩
  | .local _ .vmem, ⟨10, _⟩ => ⟨S128x22, .f32⟩
  | .local _ .vmem, ⟨11, _⟩ => ⟨S2816x128, .fp8e5m2⟩
  | .local _ .vmem, ⟨12, _⟩ => ⟨S2816x128, .fp8e5m2⟩
  | .local _ .vmem, ⟨13, _⟩ => ⟨S2816x128, .f32⟩
  | .local _ .vmem, ⟨14, _⟩ => ⟨S2816x128, .f32⟩
  | .local _ .vmem, ⟨15, _⟩ => ⟨S128x2816, .f32⟩
  | .local _ .vmem, ⟨16, _⟩ => ⟨S128x128, .f32⟩
  | .local _ .vmem, ⟨17, _⟩ => ⟨S128x22x128, .f32⟩
  | .local _ .vmem, ⟨18, _⟩ => ⟨S8x2816, .f32⟩
  | _, _ => ⟨S65536x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![512], ![false]⟩

def k0_off1 (i : grid0.Coords) : Fin 3 → Nat :=
  let arg0 : BitVec 32 := BitVec.ofNat 32 (i 0).val
  let c128_i32 : BitVec 32 := 128#32
  let v0 : BitVec 32 := Scalar.remsi arg0 c128_i32
  let c1_i32 : BitVec 32 := 1#32
  let v108 : BitVec 32 := Scalar.muli v0 c1_i32
  let c0_i32_28 : BitVec 32 := 0#32
  let v109 : BitVec 32 := Scalar.addi v108 c0_i32_28
  let v110 : Index := Scalar.indexCast v109
  let c0_29 : Index := 0#32
  let c0_30 : Index := 0#32
  ![v110.toNat, 0, 0]
def k0_off2 (i : grid0.Coords) : Fin 3 → Nat :=
  let arg0 : BitVec 32 := BitVec.ofNat 32 (i 0).val
  let c128_i32 : BitVec 32 := 128#32
  let v0 : BitVec 32 := Scalar.remsi arg0 c128_i32
  let c1_i32_73 : BitVec 32 := 1#32
  let v227 : BitVec 32 := Scalar.muli v0 c1_i32_73
  let c0_i32_74 : BitVec 32 := 0#32
  let v228 : BitVec 32 := Scalar.addi v227 c0_i32_74
  let v229 : Index := Scalar.indexCast v228
  let c1_75 : Index := 1#32
  let c0_76 : Index := 0#32
  ![v229.toNat, 1, 0]
def k0_off3 (i : grid0.Coords) : Fin 3 → Nat :=
  let arg0 : BitVec 32 := BitVec.ofNat 32 (i 0).val
  let c128_i32 : BitVec 32 := 128#32
  let v0 : BitVec 32 := Scalar.remsi arg0 c128_i32
  let c1_i32_119 : BitVec 32 := 1#32
  let v346 : BitVec 32 := Scalar.muli v0 c1_i32_119
  let c0_i32_120 : BitVec 32 := 0#32
  let v347 : BitVec 32 := Scalar.addi v346 c0_i32_120
  let v348 : Index := Scalar.indexCast v347
  let c2_121 : Index := 2#32
  let c0_122 : Index := 0#32
  ![v348.toNat, 2, 0]
def k0_off4 (i : grid0.Coords) : Fin 3 → Nat :=
  let arg0 : BitVec 32 := BitVec.ofNat 32 (i 0).val
  let c128_i32 : BitVec 32 := 128#32
  let v0 : BitVec 32 := Scalar.remsi arg0 c128_i32
  let c1_i32_165 : BitVec 32 := 1#32
  let v465 : BitVec 32 := Scalar.muli v0 c1_i32_165
  let c0_i32_166 : BitVec 32 := 0#32
  let v466 : BitVec 32 := Scalar.addi v465 c0_i32_166
  let v467 : Index := Scalar.indexCast v466
  let c3_167 : Index := 3#32
  let c0_168 : Index := 0#32
  ![v467.toNat, 3, 0]
def k0_off5 (i : grid0.Coords) : Fin 3 → Nat :=
  let arg0 : BitVec 32 := BitVec.ofNat 32 (i 0).val
  let c128_i32 : BitVec 32 := 128#32
  let v0 : BitVec 32 := Scalar.remsi arg0 c128_i32
  let c1_i32_211 : BitVec 32 := 1#32
  let v584 : BitVec 32 := Scalar.muli v0 c1_i32_211
  let c0_i32_212 : BitVec 32 := 0#32
  let v585 : BitVec 32 := Scalar.addi v584 c0_i32_212
  let v586 : Index := Scalar.indexCast v585
  let c4_213 : Index := 4#32
  let c0_214 : Index := 0#32
  ![v586.toNat, 4, 0]
def k0_off6 (i : grid0.Coords) : Fin 3 → Nat :=
  let arg0 : BitVec 32 := BitVec.ofNat 32 (i 0).val
  let c128_i32 : BitVec 32 := 128#32
  let v0 : BitVec 32 := Scalar.remsi arg0 c128_i32
  let c1_i32_257 : BitVec 32 := 1#32
  let v703 : BitVec 32 := Scalar.muli v0 c1_i32_257
  let c0_i32_258 : BitVec 32 := 0#32
  let v704 : BitVec 32 := Scalar.addi v703 c0_i32_258
  let v705 : Index := Scalar.indexCast v704
  let c5_259 : Index := 5#32
  let c0_260 : Index := 0#32
  ![v705.toNat, 5, 0]
def k0_off7 (i : grid0.Coords) : Fin 3 → Nat :=
  let arg0 : BitVec 32 := BitVec.ofNat 32 (i 0).val
  let c128_i32 : BitVec 32 := 128#32
  let v0 : BitVec 32 := Scalar.remsi arg0 c128_i32
  let c1_i32_303 : BitVec 32 := 1#32
  let v822 : BitVec 32 := Scalar.muli v0 c1_i32_303
  let c0_i32_304 : BitVec 32 := 0#32
  let v823 : BitVec 32 := Scalar.addi v822 c0_i32_304
  let v824 : Index := Scalar.indexCast v823
  let c6_305 : Index := 6#32
  let c0_306 : Index := 0#32
  ![v824.toNat, 6, 0]
def k0_off8 (i : grid0.Coords) : Fin 3 → Nat :=
  let arg0 : BitVec 32 := BitVec.ofNat 32 (i 0).val
  let c128_i32 : BitVec 32 := 128#32
  let v0 : BitVec 32 := Scalar.remsi arg0 c128_i32
  let c1_i32_349 : BitVec 32 := 1#32
  let v941 : BitVec 32 := Scalar.muli v0 c1_i32_349
  let c0_i32_350 : BitVec 32 := 0#32
  let v942 : BitVec 32 := Scalar.addi v941 c0_i32_350
  let v943 : Index := Scalar.indexCast v942
  let c7_351 : Index := 7#32
  let c0_352 : Index := 0#32
  ![v943.toNat, 7, 0]
def k0_off9 (i : grid0.Coords) : Fin 3 → Nat :=
  let arg0 : BitVec 32 := BitVec.ofNat 32 (i 0).val
  let c128_i32 : BitVec 32 := 128#32
  let v0 : BitVec 32 := Scalar.remsi arg0 c128_i32
  let c1_i32_395 : BitVec 32 := 1#32
  let v1060 : BitVec 32 := Scalar.muli v0 c1_i32_395
  let c0_i32_396 : BitVec 32 := 0#32
  let v1061 : BitVec 32 := Scalar.addi v1060 c0_i32_396
  let v1062 : Index := Scalar.indexCast v1061
  let c8_397 : Index := 8#32
  let c0_398 : Index := 0#32
  ![v1062.toNat, 8, 0]
def k0_off10 (i : grid0.Coords) : Fin 3 → Nat :=
  let arg0 : BitVec 32 := BitVec.ofNat 32 (i 0).val
  let c128_i32 : BitVec 32 := 128#32
  let v0 : BitVec 32 := Scalar.remsi arg0 c128_i32
  let c1_i32_441 : BitVec 32 := 1#32
  let v1179 : BitVec 32 := Scalar.muli v0 c1_i32_441
  let c0_i32_442 : BitVec 32 := 0#32
  let v1180 : BitVec 32 := Scalar.addi v1179 c0_i32_442
  let v1181 : Index := Scalar.indexCast v1180
  let c9_443 : Index := 9#32
  let c0_444 : Index := 0#32
  ![v1181.toNat, 9, 0]
def k0_off11 (i : grid0.Coords) : Fin 3 → Nat :=
  let arg0 : BitVec 32 := BitVec.ofNat 32 (i 0).val
  let c128_i32 : BitVec 32 := 128#32
  let v0 : BitVec 32 := Scalar.remsi arg0 c128_i32
  let c1_i32_487 : BitVec 32 := 1#32
  let v1298 : BitVec 32 := Scalar.muli v0 c1_i32_487
  let c0_i32_488 : BitVec 32 := 0#32
  let v1299 : BitVec 32 := Scalar.addi v1298 c0_i32_488
  let v1300 : Index := Scalar.indexCast v1299
  let c10_489 : Index := 10#32
  let c0_490 : Index := 0#32
  ![v1300.toNat, 10, 0]
def k0_off12 (i : grid0.Coords) : Fin 3 → Nat :=
  let arg0 : BitVec 32 := BitVec.ofNat 32 (i 0).val
  let c128_i32 : BitVec 32 := 128#32
  let v0 : BitVec 32 := Scalar.remsi arg0 c128_i32
  let c1_i32_533 : BitVec 32 := 1#32
  let v1417 : BitVec 32 := Scalar.muli v0 c1_i32_533
  let c0_i32_534 : BitVec 32 := 0#32
  let v1418 : BitVec 32 := Scalar.addi v1417 c0_i32_534
  let v1419 : Index := Scalar.indexCast v1418
  let c11_535 : Index := 11#32
  let c0_536 : Index := 0#32
  ![v1419.toNat, 11, 0]
def k0_off13 (i : grid0.Coords) : Fin 3 → Nat :=
  let arg0 : BitVec 32 := BitVec.ofNat 32 (i 0).val
  let c128_i32 : BitVec 32 := 128#32
  let v0 : BitVec 32 := Scalar.remsi arg0 c128_i32
  let c1_i32_579 : BitVec 32 := 1#32
  let v1536 : BitVec 32 := Scalar.muli v0 c1_i32_579
  let c0_i32_580 : BitVec 32 := 0#32
  let v1537 : BitVec 32 := Scalar.addi v1536 c0_i32_580
  let v1538 : Index := Scalar.indexCast v1537
  let c12_581 : Index := 12#32
  let c0_582 : Index := 0#32
  ![v1538.toNat, 12, 0]
def k0_off14 (i : grid0.Coords) : Fin 3 → Nat :=
  let arg0 : BitVec 32 := BitVec.ofNat 32 (i 0).val
  let c128_i32 : BitVec 32 := 128#32
  let v0 : BitVec 32 := Scalar.remsi arg0 c128_i32
  let c1_i32_625 : BitVec 32 := 1#32
  let v1655 : BitVec 32 := Scalar.muli v0 c1_i32_625
  let c0_i32_626 : BitVec 32 := 0#32
  let v1656 : BitVec 32 := Scalar.addi v1655 c0_i32_626
  let v1657 : Index := Scalar.indexCast v1656
  let c13_627 : Index := 13#32
  let c0_628 : Index := 0#32
  ![v1657.toNat, 13, 0]
def k0_off15 (i : grid0.Coords) : Fin 3 → Nat :=
  let arg0 : BitVec 32 := BitVec.ofNat 32 (i 0).val
  let c128_i32 : BitVec 32 := 128#32
  let v0 : BitVec 32 := Scalar.remsi arg0 c128_i32
  let c1_i32_671 : BitVec 32 := 1#32
  let v1774 : BitVec 32 := Scalar.muli v0 c1_i32_671
  let c0_i32_672 : BitVec 32 := 0#32
  let v1775 : BitVec 32 := Scalar.addi v1774 c0_i32_672
  let v1776 : Index := Scalar.indexCast v1775
  let c14_673 : Index := 14#32
  let c0_674 : Index := 0#32
  ![v1776.toNat, 14, 0]
def k0_off16 (i : grid0.Coords) : Fin 3 → Nat :=
  let arg0 : BitVec 32 := BitVec.ofNat 32 (i 0).val
  let c128_i32 : BitVec 32 := 128#32
  let v0 : BitVec 32 := Scalar.remsi arg0 c128_i32
  let c1_i32_717 : BitVec 32 := 1#32
  let v1893 : BitVec 32 := Scalar.muli v0 c1_i32_717
  let c0_i32_718 : BitVec 32 := 0#32
  let v1894 : BitVec 32 := Scalar.addi v1893 c0_i32_718
  let v1895 : Index := Scalar.indexCast v1894
  let c15_719 : Index := 15#32
  let c0_720 : Index := 0#32
  ![v1895.toNat, 15, 0]
def k0_off17 (i : grid0.Coords) : Fin 3 → Nat :=
  let arg0 : BitVec 32 := BitVec.ofNat 32 (i 0).val
  let c128_i32 : BitVec 32 := 128#32
  let v0 : BitVec 32 := Scalar.remsi arg0 c128_i32
  let c1_i32_763 : BitVec 32 := 1#32
  let v2012 : BitVec 32 := Scalar.muli v0 c1_i32_763
  let c0_i32_764 : BitVec 32 := 0#32
  let v2013 : BitVec 32 := Scalar.addi v2012 c0_i32_764
  let v2014 : Index := Scalar.indexCast v2013
  let c16_765 : Index := 16#32
  let c0_766 : Index := 0#32
  ![v2014.toNat, 16, 0]
def k0_off18 (i : grid0.Coords) : Fin 3 → Nat :=
  let arg0 : BitVec 32 := BitVec.ofNat 32 (i 0).val
  let c128_i32 : BitVec 32 := 128#32
  let v0 : BitVec 32 := Scalar.remsi arg0 c128_i32
  let c1_i32_809 : BitVec 32 := 1#32
  let v2131 : BitVec 32 := Scalar.muli v0 c1_i32_809
  let c0_i32_810 : BitVec 32 := 0#32
  let v2132 : BitVec 32 := Scalar.addi v2131 c0_i32_810
  let v2133 : Index := Scalar.indexCast v2132
  let c17_811 : Index := 17#32
  let c0_812 : Index := 0#32
  ![v2133.toNat, 17, 0]
def k0_off19 (i : grid0.Coords) : Fin 3 → Nat :=
  let arg0 : BitVec 32 := BitVec.ofNat 32 (i 0).val
  let c128_i32 : BitVec 32 := 128#32
  let v0 : BitVec 32 := Scalar.remsi arg0 c128_i32
  let c1_i32_855 : BitVec 32 := 1#32
  let v2250 : BitVec 32 := Scalar.muli v0 c1_i32_855
  let c0_i32_856 : BitVec 32 := 0#32
  let v2251 : BitVec 32 := Scalar.addi v2250 c0_i32_856
  let v2252 : Index := Scalar.indexCast v2251
  let c18_857 : Index := 18#32
  let c0_858 : Index := 0#32
  ![v2252.toNat, 18, 0]
def k0_off20 (i : grid0.Coords) : Fin 3 → Nat :=
  let arg0 : BitVec 32 := BitVec.ofNat 32 (i 0).val
  let c128_i32 : BitVec 32 := 128#32
  let v0 : BitVec 32 := Scalar.remsi arg0 c128_i32
  let c1_i32_901 : BitVec 32 := 1#32
  let v2369 : BitVec 32 := Scalar.muli v0 c1_i32_901
  let c0_i32_902 : BitVec 32 := 0#32
  let v2370 : BitVec 32 := Scalar.addi v2369 c0_i32_902
  let v2371 : Index := Scalar.indexCast v2370
  let c19_903 : Index := 19#32
  let c0_904 : Index := 0#32
  ![v2371.toNat, 19, 0]
def k0_off21 (i : grid0.Coords) : Fin 3 → Nat :=
  let arg0 : BitVec 32 := BitVec.ofNat 32 (i 0).val
  let c128_i32 : BitVec 32 := 128#32
  let v0 : BitVec 32 := Scalar.remsi arg0 c128_i32
  let c1_i32_947 : BitVec 32 := 1#32
  let v2488 : BitVec 32 := Scalar.muli v0 c1_i32_947
  let c0_i32_948 : BitVec 32 := 0#32
  let v2489 : BitVec 32 := Scalar.addi v2488 c0_i32_948
  let v2490 : Index := Scalar.indexCast v2489
  let c20_949 : Index := 20#32
  let c0_950 : Index := 0#32
  ![v2490.toNat, 20, 0]
def k0_off22 (i : grid0.Coords) : Fin 3 → Nat :=
  let arg0 : BitVec 32 := BitVec.ofNat 32 (i 0).val
  let c128_i32 : BitVec 32 := 128#32
  let v0 : BitVec 32 := Scalar.remsi arg0 c128_i32
  let c1_i32_993 : BitVec 32 := 1#32
  let v2607 : BitVec 32 := Scalar.muli v0 c1_i32_993
  let c0_i32_994 : BitVec 32 := 0#32
  let v2608 : BitVec 32 := Scalar.addi v2607 c0_i32_994
  let v2609 : Index := Scalar.indexCast v2608
  let c21_995 : Index := 21#32
  let c0_996 : Index := 0#32
  ![v2609.toNat, 21, 0]
def k0_cond3 (i : grid0.Coords) : BitVec 1 :=
  let arg0 : BitVec 32 := BitVec.ofNat 32 (i 0).val
  let c511_i32 : BitVec 32 := 511#32
  let v2906 : BitVec 1 := Scalar.cmpi .eq arg0 c511_i32
  let v2907 : BitVec 32 := Scalar.extui v2906
  let c0_i32_1154 : BitVec 32 := 0#32
  let v2908 : BitVec 1 := Scalar.cmpi .ne v2907 c0_i32_1154
  v2908

def k0_cond2 (i : grid0.Coords) : BitVec 1 :=
  let arg0 : BitVec 32 := BitVec.ofNat 32 (i 0).val
  let c128_i32 : BitVec 32 := 128#32
  let v0 : BitVec 32 := Scalar.remsi arg0 c128_i32
  let c127_i32 : BitVec 32 := 127#32
  let v2903 : BitVec 1 := Scalar.cmpi .eq v0 c127_i32
  let v2904 : BitVec 32 := Scalar.extui v2903
  let c0_i32_1153 : BitVec 32 := 0#32
  let v2905 : BitVec 1 := Scalar.cmpi .ne v2904 c0_i32_1153
  v2905

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S128x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x22 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2816 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x22 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2816x128 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2816x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "alpha" => some ((823008727881433516189252065823047014187 / 2500000000000000000000000000000000000000 : ℝ) : EReal)
  | "poly_a" => some (((Real.sqrt (2 * Real.pi⁻¹)) * (823008727881433516189252065823047014187 / 2500000000000000000000000000000000000000)⁻¹ : ℝ) : EReal)
  | "poly_a_third" => some (((1 / 3) * ((Real.sqrt (2 * Real.pi⁻¹)) * (823008727881433516189252065823047014187 / 2500000000000000000000000000000000000000)⁻¹) : ℝ) : EReal)
  | "third" => some ((1 / 3 : ℝ) : EReal)
  | _ => none
-- ==== ReferenceIdeal.lean ====
abbrev S65536x2816 : Shape := ⟨2, ![65536, 2816]⟩
abbrev S65536x22 : Shape := ⟨2, ![65536, 22]⟩
abbrev S1x2816 : Shape := ⟨2, ![1, 2816]⟩
abbrev S2816x65536 : Shape := ⟨2, ![2816, 65536]⟩
abbrev S2816x512 : Shape := ⟨2, ![2816, 512]⟩
abbrev S65536x22x128 : Shape := ⟨3, ![65536, 22, 128]⟩
abbrev S65536x22x1 : Shape := ⟨3, ![65536, 22, 1]⟩
abbrev S2816 : Shape := ⟨1, ![2816]⟩
abbrev S512x128x2816 : Shape := ⟨3, ![512, 128, 2816]⟩
abbrev S512x2816 : Shape := ⟨2, ![512, 2816]⟩
abbrev S512x1x2816 : Shape := ⟨3, ![512, 1, 2816]⟩

abbrev nBuf : Space → Nat
  | .hbm => 8
  | .vmem => 8
  | .smem => 0
  | _ => 0

abbrev bufTy : (tb : Table) → Fin (tcTables nBuf tb) → BufTy
  | .hbm, ⟨0, _⟩ => ⟨S65536x2816, .bf16⟩
  | .hbm, ⟨1, _⟩ => ⟨S65536x2816, .fp8e4m3⟩
  | .hbm, ⟨2, _⟩ => ⟨S65536x22, .f32⟩
  | .hbm, ⟨3, _⟩ => ⟨S1x2816, .f32⟩
  | .hbm, ⟨4, _⟩ => ⟨S65536x2816, .fp8e5m2⟩
  | .hbm, ⟨5, _⟩ => ⟨S65536x22, .f32⟩
  | .hbm, ⟨6, _⟩ => ⟨S2816x65536, .fp8e5m2⟩
  | .hbm, ⟨7, _⟩ => ⟨S2816x512, .f32⟩
  | .local _ .vmem, ⟨0, _⟩ => ⟨S65536x2816, .bf16⟩
  | .local _ .vmem, ⟨1, _⟩ => ⟨S65536x2816, .fp8e4m3⟩
  | .local _ .vmem, ⟨2, _⟩ => ⟨S65536x22, .f32⟩
  | .local _ .vmem, ⟨3, _⟩ => ⟨S1x2816, .f32⟩
  | .local _ .vmem, ⟨4, _⟩ => ⟨S65536x2816, .fp8e5m2⟩
  | .local _ .vmem, ⟨5, _⟩ => ⟨S65536x22, .f32⟩
  | .local _ .vmem, ⟨6, _⟩ => ⟨S2816x65536, .fp8e5m2⟩
  | .local _ .vmem, ⟨7, _⟩ => ⟨S2816x512, .f32⟩
  | _, _ => ⟨S65536x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "gelu_3c" => some ((3 * ((557459502129689443565146502186433914028119353296949256162900134818484088593478810733247388202474820468608523060237203 / 15625000000000000000000000000000000000000000000000000000000000000000000000000000000000000000000000000000000000000000000) * (Real.sqrt (2 * Real.pi⁻¹))⁻¹) : ℝ) : EReal)
  | "gelu_c" => some (((557459502129689443565146502186433914028119353296949256162900134818484088593478810733247388202474820468608523060237203 / 15625000000000000000000000000000000000000000000000000000000000000000000000000000000000000000000000000000000000000000000) * (Real.sqrt (2 * Real.pi⁻¹))⁻¹ : ℝ) : EReal)
  | "gelu_k" => some ((Real.sqrt (2 * Real.pi⁻¹) : ℝ) : EReal)
  | "inv_log_2" => some (((Real.log 2)⁻¹ : ℝ) : EReal)
  | _ => none

abbrev grid0 : Pipeline.Grid := .none

abbrev stage0_0 : Fin 1 → Memref sig .tc .vmem S65536x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x22 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S65536x2816 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x22 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2816x65536 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2816x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.Runs.lean ====
/- What the runs of the four cases share. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 512 = 0 :=
  (fun t => by
    have ht : t.val < 512 := Nat.lt_of_lt_of_eq t.isLt N_0
    have e0 : (grid0.coords t 0).val = t.val / 1 % 512 := Pipeline.Grid.coords_val t 0 (by decide) rfl
    simp only [cond0_0, e0]
    word_cmp
   : ∀ t : Fin grid0.N, cond0_0 (grid0.coords t) ↔ t.val % 512 = 0)

/-- The condition of the body's `scf.if` 1 (`k0_h2`), from the grid coordinates (the skeleton's scalar
    chain substituted). -/
abbrev cond0_1 (i : grid0.Coords) : Prop := k0_cond2 i = 1#1
/-- It holds at the points ≡ 127 (mod 128) — decided over the grid. -/
theorem hcond0_1 : ∀ t : Fin cfg0.N, cond0_1 (grid0.coords t) ↔ t.val % 128 = 127 :=
  (by decide +kernel : ∀ t : Fin grid0.N, cond0_1 (grid0.coords t) ↔ t.val % 128 = 127)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 512 = 511 :=
  (fun t => by
    have ht : t.val < 512 := Nat.lt_of_lt_of_eq t.isLt N_0
    have e0 : (grid0.coords t 0).val = t.val / 1 % 512 := Pipeline.Grid.coords_val t 0 (by decide) rfl
    simp only [cond0_2, k0_cond3, e0]
    word_cmp
   : ∀ t : Fin grid0.N, cond0_2 (grid0.coords t) ↔ t.val % 512 = 511)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x2816 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2816 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x22 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2816 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2816 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x22 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x128 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2816x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x2816 .f32 := Memref.whole cc0_scratch0
abbrev scM0_1 : Memref sig .tc .vmem S128x128 .f32 := Memref.whole cc0_scratch1
abbrev scM0_2 : Memref sig .tc .vmem S128x22x128 .f32 := Memref.whole cc0_scratch2
abbrev scM0_3 : Memref sig .tc .vmem S8x2816 .f32 := Memref.whole cc0_scratch3
/-- The scratch `arg12` the kernel carries between points, as a view: what it holds is stated through it. -/
abbrev VS0_3 : View sig .tc .vmem S8x2816 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelFrame.RunA.lean ====
/- One of the four cases of the body's conditionals, run whole; the outputs' contents are not named. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3080000 in
/-- What the body's stores leave in each output's staging memref, as pieces (last first) IN CASE A (`scf.if` 0 taken, `scf.if` 1 not taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_A (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : cond0_0 i) (hc1 : ¬cond0_1 i) (hc2 : ¬cond0_2 i)
    (x0 : Vec F S128x2816 .bf16) (x1 : Vec F S128x2816 .fp8e4m3) (x2 : Vec F S128x22 .f32) :
    { LS3 : List (View.Piece (Elt F) S8x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS3)) -∗ K ⟨⟩))
          ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__lambda__eq_skeleton]; unfold cc0__lambda__skel
    simp only [k0_part75_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.Kernel.Hand

end
-- ==== Proof.KernelFrame.RunB.lean ====
/- One of the four cases of the body's conditionals, run whole; the outputs' contents are not named. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3068000 in
/-- What the body's stores leave in each output's staging memref, as pieces (last first) IN CASE B (`scf.if` 0 not taken, `scf.if` 1 not taken, `scf.if` 2 not taken: points 1, 2, … 510: 507 of 512), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_B (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : ¬cond0_1 i) (hc2 : ¬cond0_2 i)
    (x0 : Vec F S128x2816 .bf16) (x1 : Vec F S128x2816 .fp8e4m3) (x2 : Vec F S128x22 .f32) (xs3 : Vec F S8x2816 .f32) :
    { LS3 : List (View.Piece (Elt F) S8x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS3)) -∗ K ⟨⟩))
          ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__lambda__eq_skeleton]; unfold cc0__lambda__skel
    simp only [k0_part75_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg12.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.Kernel.Hand

end
-- ==== Proof.KernelFrame.RunC.lean ====
/- One of the four cases of the body's conditionals, run whole; the outputs' contents are not named. -/
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3356000 in
/-- What the body's stores leave in each output's staging memref, as pieces (last first) IN CASE C (`scf.if` 0 not taken, `scf.if` 1 taken, `scf.if` 2 not taken: points 127, 255, 383), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_C (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : cond0_1 i) (hc2 : ¬cond0_2 i)
    (x0 : Vec F S128x2816 .bf16) (x1 : Vec F S128x2816 .fp8e4m3) (x2 : Vec F S128x22 .f32) (xs3 : Vec F S8x2816 .f32) :
    { LS3 : List (View.Piece (Elt F) S8x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS3)) -∗ K ⟨⟩))
          ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__lambda__eq_skeleton]; unfold cc0__lambda__skel
    simp only [k0_part75_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg12.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.Kernel.Hand

end
-- ==== Proof.KernelFrame.RunD.lean ====
/- One of the four cases of the body's conditionals, run whole; the outputs' contents are not named. -/
module

public import proofs.«01_k».proof.Proof.KernelFrame.RunC

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3372000 in
/-- What the body's stores leave in each output's staging memref, as pieces (last first) IN CASE D (`scf.if` 0 not taken, `scf.if` 1 taken, `scf.if` 2 taken: points 511), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7) at anything, handed back at some contents nothing names. -/
noncomputable def kernelRun0_D (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : cond0_1 i) (hc2 : cond0_2 i)
    (x0 : Vec F S128x2816 .bf16) (x1 : Vec F S128x2816 .fp8e4m3) (x2 : Vec F S128x22 .f32) (xs3 : Vec F S8x2816 .f32) :
    { LS3 : List (View.Piece (Elt F) S8x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS3)) -∗ K ⟨⟩))
          ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__lambda__eq_skeleton]; unfold cc0__lambda__skel
    simp only [k0_part75_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg12.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.Kernel.Hand

end
-- ==== Proof.KernelFrame.Frame.lean ====
/- The frame of the kernel as printed: the proof data, the obligation and the run. -/
module

public import proofs.«01_k».proof.Proof.KernelFrame.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: one of them a store of the WHOLE buffer (Lib/Ring.lean `sl_whole_mem`). -/
theorem scover0_A_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : cond0_0 i) (hc1 : ¬cond0_1 i) (hc2 : ¬cond0_2 i)
    (x0 : Vec F S128x2816 .bf16) (x1 : Vec F S128x2816 .fp8e4m3) (x2 : Vec F S128x22 .f32) (y : S8x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2).1 (by sl_whole_mem) y

/-- What case A leaves in scratch `arg12`: its pieces read back over junk. -/
def sout0_A_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : cond0_0 i) (hc1 : ¬cond0_1 i) (hc2 : ¬cond0_2 i)
    (x0 : Vec F S128x2816 .bf16) (x1 : Vec F S128x2816 .fp8e4m3) (x2 : Vec F S128x22 .f32) : Vec F S8x2816 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2).1)

/-- Case B's pieces for scratch `arg12`, which the kernel carries between points, cover it: 22 pieces of `S8x128` tiling it (Lib/Ring.lean `Piece.tiledL`). -/
theorem scover0_B_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : ¬cond0_1 i) (hc2 : ¬cond0_2 i)
    (x0 : Vec F S128x2816 .bf16) (x1 : Vec F S128x2816 .fp8e4m3) (x2 : Vec F S128x22 .f32) (xs3 : Vec F S8x2816 .f32) (y : S8x2816.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 xs3).1 S8x128.size (by sl_kernel_rfl) y

/-- What case B leaves in scratch `arg12`: its pieces read back over junk. -/
def sout0_B_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : ¬cond0_1 i) (hc2 : ¬cond0_2 i)
    (x0 : Vec F S128x2816 .bf16) (x1 : Vec F S128x2816 .fp8e4m3) (x2 : Vec F S128x22 .f32) (xs3 : Vec F S8x2816 .f32) : Vec F S8x2816 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 xs3).1)

/-- Case C's pieces for scratch `arg12`, which the kernel carries between points, cover it: 22 pieces of `S8x128` tiling it (Lib/Ring.lean `Piece.tiledL`). -/
theorem scover0_C_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : cond0_1 i) (hc2 : ¬cond0_2 i)
    (x0 : Vec F S128x2816 .bf16) (x1 : Vec F S128x2816 .fp8e4m3) (x2 : Vec F S128x22 .f32) (xs3 : Vec F S8x2816 .f32) (y : S8x2816.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 xs3).1 S8x128.size (by sl_kernel_rfl) y

/-- What case C leaves in scratch `arg12`: its pieces read back over junk. -/
def sout0_C_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : cond0_1 i) (hc2 : ¬cond0_2 i)
    (x0 : Vec F S128x2816 .bf16) (x1 : Vec F S128x2816 .fp8e4m3) (x2 : Vec F S128x22 .f32) (xs3 : Vec F S8x2816 .f32) : Vec F S8x2816 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 xs3).1)

/-- Case D's pieces for scratch `arg12`, which the kernel carries between points, cover it: 22 pieces of `S8x128` tiling it (Lib/Ring.lean `Piece.tiledL`). -/
theorem scover0_D_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : cond0_1 i) (hc2 : cond0_2 i)
    (x0 : Vec F S128x2816 .bf16) (x1 : Vec F S128x2816 .fp8e4m3) (x2 : Vec F S128x22 .f32) (xs3 : Vec F S8x2816 .f32) (y : S8x2816.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 hc0 hc1 hc2 x0 x1 x2 xs3).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 hc0 hc1 hc2 x0 x1 x2 xs3).1 S8x128.size (by sl_kernel_rfl) y

/-- What case D leaves in scratch `arg12`: its pieces read back over junk. -/
def sout0_D_3 (c : Dev nD) (i : grid0.Coords) (arg1 : Memref sig .tc .vmem S128x2816 .bf16) (harg1 : arg1.IsWhole) (arg2 : Memref sig .tc .vmem S128x2816 .fp8e4m3) (harg2 : arg2.IsWhole) (arg3 : Memref sig .tc .vmem S128x22 .f32) (harg3 : arg3.IsWhole) (arg4 : Memref sig .tc .vmem S1x2816 .f32) (harg4 : arg4.IsWhole) (arg5 : Memref sig .tc .vmem S128x2816 .fp8e5m2) (harg5 : arg5.IsWhole) (arg6 : Memref sig .tc .vmem S128x22 .f32) (harg6 : arg6.IsWhole) (arg7 : Memref sig .tc .vmem S2816x128 .fp8e5m2) (harg7 : arg7.IsWhole) (arg8 : Memref sig .tc .vmem S2816x128 .f32) (harg8 : arg8.IsWhole) (arg9 : Memref sig .tc .vmem S128x2816 .f32) (harg9 : arg9.IsWhole) (arg10 : Memref sig .tc .vmem S128x128 .f32) (harg10 : arg10.IsWhole) (arg11 : Memref sig .tc .vmem S128x22x128 .f32) (harg11 : arg11.IsWhole) (arg12 : Memref sig .tc .vmem S8x2816 .f32) (harg12 : arg12.IsWhole) (hc0 : ¬cond0_0 i) (hc1 : cond0_1 i) (hc2 : cond0_2 i)
    (x0 : Vec F S128x2816 .bf16) (x1 : Vec F S128x2816 .fp8e4m3) (x2 : Vec F S128x22 .f32) (xs3 : Vec F S8x2816 .f32) : Vec F S8x2816 .f32 :=
  VS0_3.read (Elt F) (VS0_3.writes (Elt F) VS0_3.junk (kernelRun0_D c i arg1 harg1 arg2 harg2 arg3 harg3 arg4 harg4 arg5 harg5 arg6 harg6 arg7 harg7 arg8 harg8 arg9 harg9 arg10 harg10 arg11 harg11 arg12 harg12 hc0 hc1 hc2 x0 x1 x2 xs3).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x2816 .f32
  | 0, hn => sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩)
  | n + 1, hn =>
    if h0 : (n + 1) % 512 = 0 then
      if h1 : (n + 1) % 128 = 127 then
        False.elim (by have hN : n + 1 < 512 := lt_of_lt_of_eq hn (show cfg0.N = 512 from N_0); omega)
      else
        if h2 : (n + 1) % 512 = 511 then
          False.elim (by have hN : n + 1 < 512 := lt_of_lt_of_eq hn (show cfg0.N = 512 from N_0); omega)
        else
          sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩)
    else
      if h1 : (n + 1) % 128 = 127 then
        if h2 : (n + 1) % 512 = 511 then
          sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn))
        else
          sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn))
      else
        if h2 : (n + 1) % 512 = 511 then
          False.elim (by have hN : n + 1 < 512 := lt_of_lt_of_eq hn (show cfg0.N = 512 from N_0); omega)
        else
          sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn))

/-- `outsAt0` at a point of case A: that case's contents. -/
theorem outsAt0_A (c : Dev nD) (t : Fin cfg0.N) (h0 : t.val % 512 = 0) (h1 : ¬t.val % 128 = 127) (h2 : ¬t.val % 512 = 511) :
    outsAt0 m c t.val t.isLt = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 512 = 0) (h1 : ¬t.val % 128 = 127) (h2 : ¬t.val % 512 = 511) :
    outsAt0 m c t.val t.isLt = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 512 = 0) (h1 : t.val % 128 = 127) (h2 : ¬t.val % 512 = 511) :
    outsAt0 m c t.val t.isLt = sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case D: that case's contents, over what the point before left. -/
theorem outsAt0_D (c : Dev nD) (t : Fin cfg0.N) (h0 : ¬t.val % 512 = 0) (h1 : t.val % 128 = 127) (h2 : t.val % 512 = 511) :
    outsAt0 m c t.val t.isLt = sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)))) ∗ (∃ r, prngReg c r)) := by
  cases n with
  | zero => exact absurd rfl hz
  | succ n => rfl

/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  by_cases h0 : t.val % 512 = 0
  · by_cases h1 : t.val % 128 = 127
    · exfalso; omega
    · by_cases h2 : t.val % 512 = 511
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · rw [PhiS_castSucc m c t, PhiS_zero m c _ _ hz, PhiA0_eq]
          rw [outsAt0_A m c t h0 h1 h2]
          unfold sout0_A_3
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t)).2 Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, H7, HS0, HS1, HS2, ⟨%es3, HS3⟩⟩
          isplitl [HS0 HS1 HS2 HS3 Hg]
          · isplitl [HS0 HS1 HS2 HS3]
            · isplitl [HS0]
              · iexact HS0
              isplitl [HS1]
              · iexact HS1
              isplitl [HS2]
              · iexact HS2
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
        · exfalso; have hN : t.val < 512 := lt_of_lt_of_eq t.isLt (show cfg0.N = 512 from N_0); omega
  · by_cases h1 : t.val % 128 = 127
    · by_cases h2 : t.val % 512 = 511
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · exfalso; have hN : t.val < 512 := lt_of_lt_of_eq t.isLt (show cfg0.N = 512 from N_0); omega
        · rw [PhiS_castSucc m c t, PhiS_pos m c _ _ hz]
          rw [outsAt0_D m c t h0 h1 h2]
          unfold sout0_D_3
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_D c (grid0.coords t) _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) _).2 Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, H7, HS0, HS1, HS2, ⟨%es3, HS3⟩⟩
          isplitl [HS0 HS1 HS2 HS3 Hg]
          · isplitl [HS0 HS1 HS2 HS3]
            · isplitl [HS0]
              · iexact HS0
              isplitl [HS1]
              · iexact HS1
              isplitl [HS2]
              · iexact HS2
              unfold owns; iexists _; isplitr
              swap; · iexact HS3
              ipureintro; exact View.read_writes_of_cover _ _ _ _ _ (scover0_D_3 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · exfalso; have hN : t.val < 512 := lt_of_lt_of_eq t.isLt (show cfg0.N = 512 from N_0); omega
        · rw [PhiS_castSucc m c t, PhiS_pos m c _ _ hz]
          rw [outsAt0_C m c t h0 h1 h2]
          unfold sout0_C_3
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_C c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) _).2 Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, H7, HS0, HS1, HS2, ⟨%es3, HS3⟩⟩
          isplitl [HS0 HS1 HS2 HS3 Hg]
          · isplitl [HS0 HS1 HS2 HS3]
            · isplitl [HS0]
              · iexact HS0
              isplitl [HS1]
              · iexact HS1
              isplitl [HS2]
              · iexact HS2
              unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
    · by_cases h2 : t.val % 512 = 511
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        by_cases hz : t.val = 0
        · exfalso; have hN : t.val < 512 := lt_of_lt_of_eq t.isLt (show cfg0.N = 512 from N_0); omega
        · rw [PhiS_castSucc m c t, PhiS_pos m c _ _ hz]
          rw [outsAt0_B m c t h0 h1 h2]
          unfold sout0_B_3
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) _).2 Set.univ _)
          isplitl [H0]; · iexact H0
          isplitl [H1]; · iexact H1
          isplitl [H2]; · iexact H2
          isplitl [H3]; · iexists _; iexact H3
          isplitl [H4]; · iexists _; iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, H7, HS0, HS1, HS2, ⟨%es3, HS3⟩⟩
          isplitl [HS0 HS1 HS2 HS3 Hg]
          · isplitl [HS0 HS1 HS2 HS3]
            · isplitl [HS0]
              · iexact HS0
              isplitl [HS1]
              · iexact HS1
              isplitl [HS2]
              · iexact HS2
              unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.Points.lean ====
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 512 = 0 :=
  (fun t => by
    have ht : t.val < 512 := Nat.lt_of_lt_of_eq t.isLt N_0
    have e0 : (grid0.coords t 0).val = t.val / 1 % 512 := Pipeline.Grid.coords_val t 0 (by decide) rfl
    simp only [cond0_0, e0]
    word_cmp
   : ∀ t : Fin grid0.N, cond0_0 (grid0.coords t) ↔ t.val % 512 = 0)

/-- The condition of the body's `scf.if` 1 (`k0_h2`), from the grid coordinates (the skeleton's scalar
    chain substituted). -/
abbrev cond0_1 (i : grid0.Coords) : Prop := k0_cond2 i = 1#1
/-- It holds at the points ≡ 127 (mod 128) — decided over the grid. -/
theorem hcond0_1 : ∀ t : Fin cfg0.N, cond0_1 (grid0.coords t) ↔ t.val % 128 = 127 :=
  (by decide +kernel : ∀ t : Fin grid0.N, cond0_1 (grid0.coords t) ↔ t.val % 128 = 127)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 512 = 511 :=
  (fun t => by
    have ht : t.val < 512 := Nat.lt_of_lt_of_eq t.isLt N_0
    have e0 : (grid0.coords t 0).val = t.val / 1 % 512 := Pipeline.Grid.coords_val t 0 (by decide) rfl
    simp only [cond0_2, k0_cond3, e0]
    word_cmp
   : ∀ t : Fin grid0.N, cond0_2 (grid0.coords t) ↔ t.val % 512 = 511)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x2816 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2816 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x22 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2816 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2816 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x22 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x128 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2816x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x2816 .f32 := Memref.whole cc0_scratch0
abbrev scM0_1 : Memref sig .tc .vmem S128x128 .f32 := Memref.whole cc0_scratch1
abbrev scM0_2 : Memref sig .tc .vmem S128x22x128 .f32 := Memref.whole cc0_scratch2
abbrev scM0_3 : Memref sig .tc .vmem S8x2816 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Spec.lean ====
module

public import proofs.«01_k».proof.Proof.Gen.KernelIdeal.Skeleton
public import Idealize.ShloMosaic.Lib.Pipeline.FrameBody
public import Idealize.ShloMosaic.Lib.Pointwise

/-! What one grid point of the kernel computes, written once for all of its 22 column groups.

The printed body spells the same computation out 22 times, once per group of 128 lanes. Here it is a function of the group
`j : Fin 22`, and every buffer the body fills is described by ONE function of the three blocks it reads. -/

@[expose] public section

set_option maxRecDepth 16384

noncomputable section

namespace Cert.KernelIdeal.Hand

open Idealize.ShloMosaic Idealize.ShloMosaic.TcCoe Idealize.ShloMosaic.Tactic

open Cert.KernelIdeal.Gen

variable {F : FTy → Type} [FloatOps F] [Named F]

/-! ## The scale of a maximum -/

/-- One step of the exponent search: keep the bit `b` when the float of the bits so far is at most `m`. -/
def expStep (m : F .f32) (e b : BitVec 32) : BitVec 32 :=
  Scalar.select (FloatOps.cmpf .oge m (FloatOps.ofBits .f32 (e ||| b))) (e ||| b) e

/-- The exponent field of `m`, bit by bit from the top. -/
def expField (m : F .f32) : BitVec 32 :=
  expStep m (expStep m (expStep m (expStep m (expStep m (expStep m (expStep m (expStep m 0#32 1073741824#32) 536870912#32)
    268435456#32) 134217728#32) 67108864#32) 33554432#32) 16777216#32) 8388608#32

/-- Whether the exponent field says that the scale is to be one: zero and the smallest numbers, and the infinities. -/
def unitField (m : F .f32) : BitVec 1 :=
  IntOp.ori (IntOp.cmpi .eq (expField m) 0#32) (IntOp.cmpi .eq (expField m) 2139095040#32)

/-- A maximum divided by the largest code. -/
def normMax (a : F .f32) : F .f32 := FloatOps.mulf a (FloatOps.ofBits .f32 0x37924925#32)

/-- The scale: the next power of two above `m`. -/
def scaleOf (m : F .f32) : F .f32 :=
  FloatOps.ofBits .f32 (Scalar.select (unitField m) 1065353216#32 (IntOp.addi (expField m) 8388608#32))

/-- The scale's inverse. -/
def invOf (m : F .f32) : F .f32 :=
  FloatOps.ofBits .f32 (Scalar.select (unitField m) 1065353216#32 (IntOp.subi 2122317824#32 (expField m)))

/-- The code of `v` under the inverse scale `i`. -/
def codeOf (v i : F .f32) : F .fp8e5m2 :=
  FloatOps.truncf .fp8e5m2 bitsLt_fp8e5m2_f32 (FloatOps.minimumf (FloatOps.ofBits .f32 0x47600000#32) (FloatOps.maximumf (FloatOps.ofBits .f32 0xC7600000#32) (FloatOps.mulf v i)))

/-! ## The rectangles of a group -/

theorem inbX (j : Fin 22) : ∀ a, (![0, 128 * j.val] : Fin 2 → ℕ) a + S128x128.size a ≤ S128x2816.size a :=
  Fin.forall_fin_two.mpr ⟨Nat.le_of_eq rfl, by have := j.isLt; show 128 * j.val + 128 ≤ 2816; omega⟩
theorem inbS (j : Fin 22) : ∀ a, (![0, j.val] : Fin 2 → ℕ) a + S128x1.size a ≤ S128x22.size a :=
  Fin.forall_fin_two.mpr ⟨Nat.le_of_eq rfl, by have := j.isLt; show j.val + 1 ≤ 22; omega⟩
theorem inbA (j : Fin 22) : ∀ a, (![0, j.val] : Fin 2 → ℕ) a + S128x1.size a ≤ S128x128.size a :=
  Fin.forall_fin_two.mpr ⟨Nat.le_of_eq rfl, by have := j.isLt; show j.val + 1 ≤ 128; omega⟩
theorem inbD (j : Fin 22) : ∀ a, (![0, 128 * j.val] : Fin 2 → ℕ) a + S8x128.size a ≤ S8x2816.size a :=
  Fin.forall_fin_two.mpr ⟨Nat.le_of_eq rfl, by have := j.isLt; show 128 * j.val + 128 ≤ 2816; omega⟩
theorem inbC (j : Fin 22) : ∀ a, (![128 * j.val, 0] : Fin 2 → ℕ) a + S128x128.size a ≤ S2816x128.size a :=
  Fin.forall_fin_two.mpr ⟨by have := j.isLt; show 128 * j.val + 128 ≤ 2816; omega, Nat.le_of_eq rfl⟩
theorem inbG (j : Fin 22) : ∀ a, (![0, j.val, 0] : Fin 3 → ℕ) a + S128x1x128.size a ≤ S128x22x128.size a := by
  intro a; have := j.isLt; fin_cases a
  · exact Nat.le_of_eq rfl
  · show j.val + 1 ≤ 22; omega
  · exact Nat.le_of_eq rfl

/-- The row of the column-scale scratch that point `i` fills. -/
def slotOf (i : grid0.Coords) : ℕ := k0_off1 i 0

theorem slotOf_eq (i : grid0.Coords) : slotOf i = (i 0).val % 128 := by
  unfold slotOf; rw [k0_off1_eq]; rfl

theorem inbR (i : grid0.Coords) (j : Fin 22) : ∀ a, (![slotOf i, j.val, 0] : Fin 3 → ℕ) a + S1x1x128.size a ≤ S128x22x128.size a := by
  have h := slotOf_eq i
  intro a; have := j.isLt; fin_cases a
  · show slotOf i + 1 ≤ 128; omega
  · show j.val + 1 ≤ 22; omega
  · exact Nat.le_of_eq rfl

/-- A list over the groups, the last group first, as the body's writes are listed. -/
def down {α : Type*} (P : Fin 22 → α) : List α :=
  [P 21, P 20, P 19, P 18, P 17, P 16, P 15, P 14, P 13, P 12, P 11, P 10, P 9, P 8, P 7, P 6, P 5, P 4, P 3, P 2, P 1, P 0]

theorem mem_down {α : Type*} (P : Fin 22 → α) (p : α) : p ∈ down P ↔ ∃ j, p = P j := by
  constructor
  · intro h
    simp only [down, List.mem_cons, List.not_mem_nil, or_false] at h
    rcases h with h | h | h | h | h | h | h | h | h | h | h | h | h | h | h | h | h | h | h | h | h | h <;> exact ⟨_, h⟩
  · rintro ⟨j, rfl⟩
    fin_cases j <;> simp [down]

section Read
variable {sig : RefSig} {κ : Kind} {sp : Space} {s : Shape} {e : EltTy} {Val : EltTy → Type}

/-- What 22 writes leave: the function `G` that all of them agree with, when what they do not reach held `G` before. -/
theorem read_writes_down (v : View sig κ sp s e) (f : v.ty.Contents Val) (P : Fin 22 → View.Piece Val s e) (G : s.Idx → Val e)
    (hG : ∀ j x, (P j).2 x = G ((P j).1.emb x)) (hrest : ∀ y, (∃ j, y ∈ (P j).1.set) ∨ v.read Val f y = G y) :
    v.read Val (v.writes Val f (down P)) = G := by
  funext y
  by_cases h : ∃ p ∈ down P, y ∈ p.1.set
  · refine View.read_writes_apply_of_pieces v f G (down P) (fun p hp x => ?_) y h
    obtain ⟨j, rfl⟩ := (mem_down P p).1 hp
    exact hG j x
  · rw [View.read_writes_apply_of_forall_not_mem v f y (down P) fun p hp hy => h ⟨p, hp, hy⟩]
    rcases hrest y with ⟨j, hj⟩ | h'
    · exact absurd ⟨_, (mem_down P _).2 ⟨j, rfl⟩, hj⟩ h
    · exact h'
end Read

/-! ## One group -/

section Group
variable (x1 : Vec F S128x2816 .bf16) (x2 : Vec F S128x2816 .fp8e4m3) (x3 : Vec F S128x22 .f32)

/-- The gradient through the activation, of the 128 × 128 tile of group `j`. -/
def tile (j : Fin 22) : FVec F S128x128 .f32 :=
  k0_pay21 (View.ld x3 (Rect.unit ![0, j.val] S128x1.size (inbS j))) (View.ld x2 (Rect.unit ![0, 128 * j.val] S128x128.size (inbX j)))
    (View.ld x1 (Rect.unit ![0, 128 * j.val] S128x128.size (inbX j)))

/-- The largest magnitude of each row of a tile. -/
def rowMax (v : FVec F S128x128 .f32) : FVec F S128 .f32 :=
  multiReduction .maximumf [1] S128 (absf v) 0xFF800000#32 reduces_S128x128_S128 (.inl rfl) rfl
/-- The largest magnitude of each column of a tile. -/
def colMax (v : FVec F S128x128 .f32) : FVec F S128 .f32 :=
  multiReduction .maximumf [0] S128 (absf v) 0xFF800000#32 reduces_S128x128_S128_2 (.inl rfl) rfl
/-- The sums of a tile's rows eight apart. -/
def foldRows (v : FVec F S128x128 .f32) : FVec F S8x128 .f32 :=
  multiReduction .add [0] S8x128 (shapeCast S16x8x128 v shapeCasts_S128x128_S16x8x128) 0x00000000#32 reduces_S16x8x128_S8x128 (.inl rfl) rfl

/-! ### What the body stores for the group, as printed -/

def pV (j : Fin 22) : View.Piece (Elt F) S128x2816 .f32 :=
  ⟨Rect.unit ![0, 128 * j.val] S128x128.size (inbX j), shapeCast S128x128 (tile x1 x2 x3 j) shapeCasts_S128x128_S128x128⟩
def pA (j : Fin 22) : View.Piece (Elt F) S128x128 .f32 :=
  ⟨Rect.unit ![0, j.val] S128x1.size (inbA j), k0_pay25 (shapeCast S128x1 (rowMax (tile x1 x2 x3 j)) shapeCasts_S128_S128x1)⟩
def pD (x12 : Vec F S8x2816 .f32) (j : Fin 22) : View.Piece (Elt F) S8x2816 .f32 :=
  ⟨Rect.unit ![0, 128 * j.val] S8x128.size (inbD j), k0_pay26 (tile x1 x2 x3 j) (View.ld x12 (Rect.unit ![0, 128 * j.val] S8x128.size (inbD j)))⟩
def pC (j : Fin 22) : View.Piece (Elt F) S2816x128 .fp8e5m2 :=
  ⟨Rect.unit ![128 * j.val, 0] S128x128.size (inbC j), k0_pay33 (tile x1 x2 x3 j) (k0_pay27 (absf (tile x1 x2 x3 j))) (k0_pay28 (absf (tile x1 x2 x3 j))) (k0_pay29 (absf (tile x1 x2 x3 j)))⟩
def pR (i : grid0.Coords) (j : Fin 22) : View.Piece (Elt F) S128x22x128 .f32 :=
  ⟨Rect.unit ![slotOf i, j.val, 0] S1x1x128.size (inbR i j), k0_pay32 (k0_pay27 (absf (tile x1 x2 x3 j))) (k0_pay28 (absf (tile x1 x2 x3 j))) (k0_pay29 (absf (tile x1 x2 x3 j)))⟩

theorem slicesA (j : Fin 22) : S128x128.Slices ![0, j.val] S128x1 :=
  ⟨rfl, Fin.forall_fin_two.mpr ⟨Nat.le_of_eq rfl, by have := j.isLt; show j.val + 1 ≤ 128; omega⟩⟩

/-- The row codes of a group, from the row maxima `A` and the stored tile `V`. -/
def rowCodes (A : Vec F S128x128 .f32) (j : Fin 22) (V : Vec F S128x128 .f32) : FVec F S128x128 .fp8e5m2 :=
  truncf .fp8e5m2 (minimumf (broadcast S128x128 (Scalar.ofBits .f32 0x47600000#32)) (maximumf (broadcast S128x128 (Scalar.ofBits .f32 0xC7600000#32))
    (mulf V (broadcastTo S128x128 (extractStridedSlice S128x1 ![0, j.val] (k0_pay362 (k0_pay357 A) (k0_pay358 A) (k0_pay359 A)) (slicesA j)) broadcasts_S128x1_S128x128)))) bitsLt_fp8e5m2_f32
def pQ (A : Vec F S128x128 .f32) (V : Vec F S128x2816 .f32) (j : Fin 22) : View.Piece (Elt F) S128x2816 .fp8e5m2 :=
  ⟨Rect.unit ![0, 128 * j.val] S128x128.size (inbX j), rowCodes A j (View.ld V (Rect.unit ![0, 128 * j.val] S128x128.size (inbX j)))⟩
def pK (x11 : Vec F S128x22x128 .f32) (j : Fin 22) : View.Piece (Elt F) S2816x128 .f32 :=
  ⟨Rect.unit ![128 * j.val, 0] S128x128.size (inbC j), k0_pay390 (View.ld x11 (Rect.unit ![0, j.val, 0] S128x1x128.size (inbG j)))⟩

/-! ### What a buffer holds after the point -/

/-- The group of a column, and its lane within the group. -/
def grp (c : ℕ) (h : c < 2816) : Fin 22 := ⟨c / 128, by omega⟩
def lane (c : ℕ) : Fin 128 := ⟨c % 128, Nat.mod_lt _ (by decide)⟩

def gV : Vec F S128x2816 .f32 := fun y => tile x1 x2 x3 (grp (y 1).val (ValueIdx.idx2_lt1 y)) (ix2 (y 0) (lane (y 1).val))
def rowNorm (r : Fin 128) (j : Fin 22) : F .f32 := normMax (rowMax (tile x1 x2 x3 j) (ix1 r))
def colNorm (j : Fin 22) (l : Fin 128) : F .f32 := normMax (colMax (tile x1 x2 x3 j) (ix1 l))
/-- The row codes block. -/
def gQ : Vec F S128x2816 .fp8e5m2 := fun y =>
  codeOf (gV x1 x2 x3 y) (invOf (rowNorm x1 x2 x3 (y 0) (grp (y 1).val (ValueIdx.idx2_lt1 y))))
/-- The row scales block. -/
def gS : Vec F S128x22 .f32 := fun y => scaleOf (rowNorm x1 x2 x3 (y 0) (y 1))
/-- The column codes block. -/
def gC : Vec F S2816x128 .fp8e5m2 := fun y =>
  codeOf (tile x1 x2 x3 (grp (y 0).val (ValueIdx.idx2_lt0 y)) (ix2 (y 1) (lane (y 0).val)))
    (invOf (colNorm x1 x2 x3 (grp (y 0).val (ValueIdx.idx2_lt0 y)) (lane (y 0).val)))
/-- The column-scale scratch: the point's own row is filled. -/
def gR (i : grid0.Coords) (x11 : Vec F S128x22x128 .f32) : Vec F S128x22x128 .f32 := fun y =>
  if (y 0).val = slotOf i then scaleOf (colNorm x1 x2 x3 (y 1) (y 2)) else x11 y
/-- The running column sums. -/
def gD (x12 : Vec F S8x2816 .f32) : Vec F S8x2816 .f32 := fun y =>
  FloatOps.addf (x12 y) (foldRows (tile x1 x2 x3 (grp (y 1).val (ValueIdx.idx2_lt1 y))) (ix2 (y 0) (lane (y 1).val)))
/-- The column scales of 128 points, turned. -/
def gK (x11 : Vec F S128x22x128 .f32) : Vec F S2816x128 .f32 := fun y =>
  x11 (ix3 (y 1) (grp (y 0).val (ValueIdx.idx2_lt0 y)) (lane (y 0).val))
end Group

end Cert.KernelIdeal.Hand

end
-- ==== Proof.SpecRead.lean ====
module

public import proofs.«01_k».proof.Proof.Spec
public import Idealize.ShloMosaic.Lib.WritesUnit

/-! What the buffers read after the body's writes: each is the one function Spec.lean gives it. -/

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F] [Named F]
variable {sig' : RefSig} {κ : Kind} {sp : Space}
variable (x1 : Vec F S128x2816 .bf16) (x2 : Vec F S128x2816 .fp8e4m3) (x3 : Vec F S128x22 .f32)

theorem grp_of (j : Fin 22) (n l : ℕ) (hn : n = 128 * j.val + 1 * l) (hl : l < 128) (h : n < 2816) : grp n h = j := by
  apply Fin.ext; show n / 128 = j.val; omega
theorem lane_of (j : Fin 22) (n : ℕ) (l : Fin 128) (hn : n = 128 * j.val + 1 * l.val) : lane n = l := by
  apply Fin.ext; show n % 128 = l.val; have := l.isLt; omega

theorem ix2_ext {n0 n1 : ℕ} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1

theorem ix2_eta {n0 n1 : ℕ} (x : (⟨2, ![n0, n1]⟩ : Shape).Idx) : x = ix2 (x 0) (x 1) := ix2_ext rfl rfl

/-! ## The elementwise readings of the printed scale computation -/

theorem pay32_eq (M : FVec F S128x128 .f32) :
    k0_pay32 (k0_pay27 M) (k0_pay28 M) (k0_pay29 M) = shapeCast S1x1x128 (fun y => scaleOf (k0_pay27 M y)) shapeCasts_S1x128_S1x1x128 := rfl

theorem pay27_absf (v : FVec F S128x128 .f32) : k0_pay27 (absf v) = fun y => normMax (colMax v (ix1 (y 1))) := by
  funext y
  have : k0_pay27 (absf v) y = normMax (shapeCast S1x128 (colMax v) shapeCasts_S128_S1x128 y) := rfl
  rw [this]
  refine congrArg normMax ?_
  exact shapeCast_apply _ _ _ _ (by
    rw [Shape.rowMajor_val_one, Shape.rowMajor_val_two]
    have : (y 0).val < 1 := (y 0).isLt
    show (y 1).val = (y 0).val * 128 + (y 1).val
    omega)

theorem pay363_eq (A : Vec F S128x128 .f32) (y : S128x22.Idx) :
    k0_pay363 (k0_pay357 A) (k0_pay358 A) (k0_pay359 A) y = scaleOf (normMax (A (ix2 (y 0) ⟨(y 1).val, Nat.lt_trans (ValueIdx.idx2_lt1 y) (by decide)⟩))) := by
  have : ∀ z, (fun z => scaleOf (normMax (A z))) z = scaleOf (normMax (A z)) := fun _ => rfl
  show extractStridedSlice S128x22 ![0, 0] (fun z => scaleOf (normMax (A z))) slices_S128x128_o0_0_S128x22 y = _
  refine congrArg (fun z => scaleOf (normMax (A z))) (ix2_ext ?_ ?_)
  · show 0 + (y 0).val = (y 0).val; omega
  · show 0 + (y 1).val = (y 1).val; omega

theorem pay362_eq (A : Vec F S128x128 .f32) :
    k0_pay362 (k0_pay357 A) (k0_pay358 A) (k0_pay359 A) = fun z => invOf (normMax (A z)) := rfl

theorem rowCodes_apply (A : Vec F S128x128 .f32) (j : Fin 22) (V : Vec F S128x128 .f32) (y : S128x128.Idx) :
    rowCodes A j V y = codeOf (V y) (invOf (normMax (A (ix2 (y 0) ⟨j.val, Nat.lt_trans j.isLt (by decide)⟩)))) := by
  unfold rowCodes
  rw [pay362_eq]
  show codeOf (V y) (broadcastTo S128x128 (extractStridedSlice S128x1 ![0, j.val] (fun z => invOf (normMax (A z))) (slicesA j)) broadcasts_S128x1_S128x128 y) = _
  refine congrArg (fun z => codeOf (V y) (invOf (normMax (A z)))) (ix2_ext ?_ ?_)
  · show 0 + (y 0).val = (y 0).val; omega
  · show j.val + 0 = j.val; omega

theorem pay33_apply (v : FVec F S128x128 .f32) (y : S128x128.Idx) :
    k0_pay33 v (k0_pay27 (absf v)) (k0_pay28 (absf v)) (k0_pay29 (absf v)) y
      = codeOf (v (ix2 (y 1) (y 0))) (invOf (normMax (colMax v (ix1 (y 0))))) := by
  have h : k0_pay33 v (k0_pay27 (absf v)) (k0_pay28 (absf v)) (k0_pay29 (absf v))
      = transpose S128x128 [1, 0] (fun z => codeOf (v z) (broadcastTo S128x128 (fun z => invOf (k0_pay27 (absf v) z)) broadcasts_S1x128_S128x128 z)) transposes_S128x128_p1_0_S128x128 := rfl
  rw [h, pay27_absf]
  pointwise

/-! ## The 22 writes of each buffer -/

variable {x1 x2 x3}

theorem gV_at (j : Fin 22) (r l : Fin 128) (y : S128x2816.Idx) (h0 : (y 0).val = r.val) (h1 : (y 1).val = 128 * j.val + 1 * l.val) :
    gV x1 x2 x3 y = tile x1 x2 x3 j (ix2 r l) := by
  unfold gV
  rw [grp_of j _ l.val h1 l.isLt, lane_of j _ l h1]
  exact congrArg _ (ix2_ext h0 rfl)

theorem gQ_at (j : Fin 22) (r l : Fin 128) (y : S128x2816.Idx) (h0 : (y 0).val = r.val) (h1 : (y 1).val = 128 * j.val + 1 * l.val) :
    gQ x1 x2 x3 y = codeOf (tile x1 x2 x3 j (ix2 r l)) (invOf (rowNorm x1 x2 x3 r j)) := by
  unfold gQ
  rw [gV_at j r l y h0 h1, grp_of j _ l.val h1 l.isLt, (Fin.ext h0 : (y 0) = r)]

theorem gC_at (j : Fin 22) (r l : Fin 128) (y : S2816x128.Idx) (h1 : (y 1).val = r.val) (h0 : (y 0).val = 128 * j.val + 1 * l.val) :
    gC x1 x2 x3 y = codeOf (tile x1 x2 x3 j (ix2 r l)) (invOf (colNorm x1 x2 x3 j l)) := by
  unfold gC
  rw [grp_of j _ l.val h0 l.isLt, lane_of j _ l h0, (Fin.ext h1 : (y 1) = r)]

theorem gD_at (x12 : Vec F S8x2816 .f32) (j : Fin 22) (r : Fin 8) (l : Fin 128) (y : S8x2816.Idx) (h0 : (y 0).val = r.val) (h1 : (y 1).val = 128 * j.val + 1 * l.val) :
    gD x1 x2 x3 x12 y = FloatOps.addf (x12 y) (foldRows (tile x1 x2 x3 j) (ix2 r l)) := by
  unfold gD
  rw [grp_of j _ l.val h1 l.isLt, lane_of j _ l h1, (Fin.ext h0 : (y 0) = r)]

theorem gK_at (x11 : Vec F S128x22x128 .f32) (j : Fin 22) (r l : Fin 128) (y : S2816x128.Idx) (h1 : (y 1).val = r.val) (h0 : (y 0).val = 128 * j.val + 1 * l.val) :
    gK x11 y = x11 (ix3 r j l) := by
  unfold gK
  rw [grp_of j _ l.val h0 l.isLt, lane_of j _ l h0, (Fin.ext h1 : (y 1) = r)]

theorem gR_at (i : grid0.Coords) (x11 : Vec F S128x22x128 .f32) (y : S128x22x128.Idx) (h : (y 0).val = slotOf i) :
    gR x1 x2 x3 i x11 y = scaleOf (colNorm x1 x2 x3 (y 1) (y 2)) := if_pos h

/-- The columns of group `j` are the column tiles' rectangle. -/
theorem mem_tile (y : S128x2816.Idx) : y ∈ (Rect.unit (s := S128x2816) ![0, 128 * (grp (y 1).val (ValueIdx.idx2_lt1 y)).val] S128x128.size (inbX _)).set := by
  refine Rect.mem_set_unit.2 (Fin.forall_fin_two.mpr ⟨⟨Nat.zero_le _, ?_⟩, ?_⟩)
  · show (y 0).val < 0 + 128; have := ValueIdx.idx2_lt0 y; omega
  · show 128 * ((y 1).val / 128) ≤ (y 1).val ∧ (y 1).val < 128 * ((y 1).val / 128) + 128; omega

theorem mem_tileC (y : S2816x128.Idx) : y ∈ (Rect.unit (s := S2816x128) ![128 * (grp (y 0).val (ValueIdx.idx2_lt0 y)).val, 0] S128x128.size (inbC _)).set := by
  refine Rect.mem_set_unit.2 (Fin.forall_fin_two.mpr ⟨?_, ⟨Nat.zero_le _, ?_⟩⟩)
  · show 128 * ((y 0).val / 128) ≤ (y 0).val ∧ (y 0).val < 128 * ((y 0).val / 128) + 128; omega
  · show (y 1).val < 0 + 128; have := ValueIdx.idx2_lt1 y; omega

theorem read_V (v : View sig' κ sp S128x2816 .f32) (f : v.ty.Contents (Elt F)) :
    v.read (Elt F) (v.writes (Elt F) f (down (pV x1 x2 x3))) = gV x1 x2 x3 := by
  refine read_writes_down v f _ _ (fun j (x : S128x128.Idx) => ?_) (fun y => .inl ⟨_, mem_tile y⟩)
  show shapeCast S128x128 (tile x1 x2 x3 j) shapeCasts_S128x128_S128x128 x = _
  rw [shapeCast_id]
  refine Eq.trans (congrArg (tile x1 x2 x3 j) (ix2_eta x)) (gV_at j (x 0) (x 1) _ ?_ rfl).symm
  show 0 + 1 * (x 0).val = (x 0).val
  omega

/-- The row-maximum scratch: column `j` of the first 22 holds the row maxima of group `j`. -/
def gA (x1 : Vec F S128x2816 .bf16) (x2 : Vec F S128x2816 .fp8e4m3) (x3 : Vec F S128x22 .f32) : Vec F S128x128 .f32 := fun y =>
  if h : (y 1).val < 22 then rowMax (tile x1 x2 x3 ⟨(y 1).val, h⟩) (ix1 (y 0)) else FloatOps.ofBits .f32 0#32

theorem gA_at (j : Fin 22) (r : Fin 128) (y : S128x128.Idx) (h0 : (y 0).val = r.val) (h1 : (y 1).val = j.val) :
    gA x1 x2 x3 y = rowMax (tile x1 x2 x3 j) (ix1 r) := by
  unfold gA
  rw [dif_pos (by rw [h1]; exact j.isLt), (Fin.ext h0 : (y 0) = r)]
  exact congrArg (fun k => rowMax (tile x1 x2 x3 k) (ix1 r)) (Fin.ext h1)

theorem pay25_apply (w : FVec F S128 .f32) (x : S128x1.Idx) : k0_pay25 (shapeCast S128x1 w shapeCasts_S128_S128x1) x = w (ix1 (x 0)) := by
  have hx : (x 1).val = 0 := by have : (x 1).val < 1 := (x 1).isLt; omega
  unfold k0_pay25
  rw [shapeCast_id]
  refine shapeCast_apply _ _ _ _ ?_
  rw [Shape.rowMajor_val_one, Shape.rowMajor_val_two]
  show (x 0).val = (x 0).val * 1 + (x 1).val
  omega

theorem pA_gA (k : Fin 22) (x : S128x1.Idx) : (pA x1 x2 x3 k).2 x = gA x1 x2 x3 ((pA x1 x2 x3 k).1.emb x) := by
  have hx : (x 1).val = 0 := by have : (x 1).val < 1 := (x 1).isLt; omega
  unfold pA
  dsimp only
  refine Eq.trans (pay25_apply (rowMax (tile x1 x2 x3 k)) x) ?_
  refine (gA_at k (x 0) _ ?_ ?_).symm
  · show 0 + 1 * (x 0).val = (x 0).val; omega
  · show k.val + 1 * (x 1).val = k.val; omega

theorem read_A (v : View sig' κ sp S128x128 .f32) (f : v.ty.Contents (Elt F)) (r : Fin 128) (j : Fin 22) (h : j.val < 128) :
    v.read (Elt F) (v.writes (Elt F) f (down (pA x1 x2 x3))) (ix2 r ⟨j.val, h⟩) = rowMax (tile x1 x2 x3 j) (ix1 r) := by
  refine (View.read_writes_apply_of_pieces v f (gA x1 x2 x3) (down (pA x1 x2 x3))
    (fun p hp => ?_) (ix2 r ⟨j.val, h⟩) ⟨_, (mem_down _ _).2 ⟨j, rfl⟩, ?_⟩).trans (gA_at j r _ rfl rfl)
  · obtain ⟨k, rfl⟩ := (mem_down _ p).1 hp
    exact pA_gA k
  · show ix2 r ⟨j.val, h⟩ ∈ (Rect.unit (s := S128x128) ![0, j.val] S128x1.size (inbA j)).set
    refine Rect.mem_set_unit.2 (Fin.forall_fin_two.mpr ⟨⟨Nat.zero_le _, ?_⟩, ?_⟩)
    · show r.val < 0 + 128; omega
    · show j.val ≤ j.val ∧ j.val < j.val + 1; omega

theorem read_D (x12 : Vec F S8x2816 .f32) (v : View sig' κ sp S8x2816 .f32) (f : v.ty.Contents (Elt F)) :
    v.read (Elt F) (v.writes (Elt F) f (down (pD x1 x2 x3 x12))) = gD x1 x2 x3 x12 := by
  refine read_writes_down v f _ _ (fun j (x : S8x128.Idx) => ?_) (fun y => .inl ⟨grp (y 1).val (ValueIdx.idx2_lt1 y), ?_⟩)
  · have e : k0_pay26 (tile x1 x2 x3 j) (View.ld x12 (Rect.unit ![0, 128 * j.val] S8x128.size (inbD j)))
        = shapeCast S8x128 (fun x => FloatOps.addf (x12 ((Rect.unit (s := S8x2816) ![0, 128 * j.val] S8x128.size (inbD j)).emb x)) (foldRows (tile x1 x2 x3 j) x)) shapeCasts_S8x128_S8x128 := rfl
    refine (congrFun (e.trans (shapeCast_id _ _)) x).trans ?_
    refine Eq.trans (congrArg (fun z => FloatOps.addf (x12 ((Rect.unit (s := S8x2816) ![0, 128 * j.val] S8x128.size (inbD j)).emb x)) (foldRows (tile x1 x2 x3 j) z)) (ix2_eta x)) (gD_at x12 j (x 0) (x 1) _ ?_ rfl).symm
    show 0 + 1 * (x 0).val = (x 0).val
    omega
  · show y ∈ (Rect.unit (s := S8x2816) ![0, 128 * (grp (y 1).val (ValueIdx.idx2_lt1 y)).val] S8x128.size (inbD _)).set
    refine Rect.mem_set_unit.2 (Fin.forall_fin_two.mpr ⟨⟨Nat.zero_le _, ?_⟩, ?_⟩)
    · show (y 0).val < 0 + 8; have := ValueIdx.idx2_lt0 y; omega
    · show 128 * ((y 1).val / 128) ≤ (y 1).val ∧ (y 1).val < 128 * ((y 1).val / 128) + 128; omega

theorem read_C (v : View sig' κ sp S2816x128 .fp8e5m2) (f : v.ty.Contents (Elt F)) :
    v.read (Elt F) (v.writes (Elt F) f (down (pC x1 x2 x3))) = gC x1 x2 x3 := by
  refine read_writes_down v f _ _ (fun j (x : S128x128.Idx) => ?_) (fun y => .inl ⟨_, mem_tileC y⟩)
  refine (pay33_apply _ x).trans (gC_at j (x 1) (x 0) _ ?_ rfl).symm
  show 0 + 1 * (x 1).val = (x 1).val
  omega

theorem read_R (i : grid0.Coords) (v : View sig' κ sp S128x22x128 .f32) (f : v.ty.Contents (Elt F)) :
    v.read (Elt F) (v.writes (Elt F) f (down (pR x1 x2 x3 i))) = gR x1 x2 x3 i (v.read (Elt F) f) := by
  refine read_writes_down v f _ _ (fun j (x : S1x1x128.Idx) => ?_) (fun y => ?_)
  · show k0_pay32 (k0_pay27 (absf (tile x1 x2 x3 j))) (k0_pay28 (absf (tile x1 x2 x3 j))) (k0_pay29 (absf (tile x1 x2 x3 j))) x = gR x1 x2 x3 i _ ((Rect.unit (s := S128x22x128) ![slotOf i, j.val, 0] S1x1x128.size (inbR i j)).emb x)
    have h0 : (x 0).val = 0 := by have : (x 0).val < 1 := (x 0).isLt; omega
    have h1 : (x 1).val = 0 := by have : (x 1).val < 1 := (x 1).isLt; omega
    rw [pay32_eq, pay27_absf]
    refine (shapeCast_apply _ _ x (ix2 (n0 := 1) (n1 := 128) 0 (x 2)) ?_).trans ?_
    · rw [Shape.rowMajor_val_two, Shape.rowMajor_val_three]
      show 0 * 128 + (x 2).val = ((x 0).val * 1 + (x 1).val) * 128 + (x 2).val
      omega
    unfold gR
    rw [if_pos (by show slotOf i + 1 * (x 0).val = slotOf i; omega)]
    have e1 : (((Rect.unit (s := S128x22x128) ![slotOf i, j.val, 0] S1x1x128.size (inbR i j)).emb x : S128x22x128.Idx) 1) = j :=
      Fin.ext (by show j.val + 1 * (x 1).val = j.val; omega)
    have e2 : (((Rect.unit (s := S128x22x128) ![slotOf i, j.val, 0] S1x1x128.size (inbR i j)).emb x : S128x22x128.Idx) 2) = x 2 :=
      Fin.ext (by show 0 + 1 * (x 2).val = (x 2).val; omega)
    rw [e1, e2]
    rfl
  · by_cases h : (y 0).val = slotOf i
    · refine .inl ⟨y 1, ?_⟩
      show y ∈ (Rect.unit (s := S128x22x128) ![slotOf i, (y 1).val, 0] S1x1x128.size (inbR i _)).set
      refine Rect.mem_set_unit.2 fun a => ?_
      match a with
      | ⟨0, _⟩ => show slotOf i ≤ (y 0).val ∧ (y 0).val < slotOf i + 1; omega
      | ⟨1, _⟩ => show (y 1).val ≤ (y 1).val ∧ (y 1).val < (y 1).val + 1; omega
      | ⟨2, _⟩ => show 0 ≤ (y 2).val ∧ (y 2).val < 0 + 128; have : (y 2).val < 128 := (y 2).isLt; omega
    · exact .inr (by unfold gR; rw [if_neg h])

theorem read_Q (A : Vec F S128x128 .f32) (hA : ∀ (r : Fin 128) (j : Fin 22) (h : j.val < 128), A (ix2 r ⟨j.val, h⟩) = rowMax (tile x1 x2 x3 j) (ix1 r))
    (V : Vec F S128x2816 .f32) (hV : V = gV x1 x2 x3) (v : View sig' κ sp S128x2816 .fp8e5m2) (f : v.ty.Contents (Elt F)) :
    v.read (Elt F) (v.writes (Elt F) f (down (pQ A V))) = gQ x1 x2 x3 := by
  subst hV
  refine read_writes_down v f _ _ (fun j (x : S128x128.Idx) => ?_) (fun y => .inl ⟨_, mem_tile y⟩)
  refine (rowCodes_apply A j _ x).trans ?_
  have h0 : 0 + 1 * (x 0).val = (x 0).val := by omega
  have e : View.ld (gV x1 x2 x3) (Rect.unit (s := S128x2816) ![0, 128 * j.val] S128x128.size (inbX j)) x = tile x1 x2 x3 j (ix2 (x 0) (x 1)) :=
    gV_at j (x 0) (x 1) _ h0 rfl
  refine Eq.trans ?_ (gQ_at j (x 0) (x 1) _ h0 rfl).symm
  exact congrArg₂ codeOf e (congrArg (fun z => invOf (normMax z)) (hA (x 0) j _))

theorem read_S (A : Vec F S128x128 .f32) (hA : ∀ (r : Fin 128) (j : Fin 22) (h : j.val < 128), A (ix2 r ⟨j.val, h⟩) = rowMax (tile x1 x2 x3 j) (ix1 r))
    (inb : ∀ a, (![0, 0] : Fin 2 → ℕ) a + S128x22.size a ≤ S128x22.size a) (v : View sig' κ sp S128x22 .f32) (f : v.ty.Contents (Elt F)) :
    v.read (Elt F) (v.writes (Elt F) f [⟨Rect.unit ![0, 0] S128x22.size inb, k0_pay363 (k0_pay357 A) (k0_pay358 A) (k0_pay359 A)⟩]) = gS x1 x2 x3 := by
  funext y
  refine (View.read_writes_cons_unit_of_mem v f inb _ [] y y rfl fun a => ?_).trans ?_
  · match a with
    | ⟨0, _⟩ => show (y 0).val = 0 + (y 0).val; omega
    | ⟨1, _⟩ => show (y 1).val = 0 + (y 1).val; omega
  · rw [pay363_eq, hA (y 0) (y 1)]
    rfl

theorem read_K (x11 : Vec F S128x22x128 .f32) (v : View sig' κ sp S2816x128 .f32) (f : v.ty.Contents (Elt F)) :
    v.read (Elt F) (v.writes (Elt F) f (down (pK x11))) = gK x11 := by
  refine read_writes_down v f _ _ (fun j (x : S128x128.Idx) => ?_) (fun y => .inl ⟨_, mem_tileC y⟩)
  have h1 : 0 + 1 * (x 1).val = (x 1).val := by omega
  refine Eq.trans ?_ (gK_at x11 j (x 1) (x 0) _ h1 rfl).symm
  show k0_pay390 (View.ld x11 (Rect.unit (s := S128x22x128) ![0, j.val, 0] S128x1x128.size (inbG j))) x = _
  pointwise [k0_pay390]

end Cert.KernelIdeal.Hand

end
-- ==== Proof.RunSpec.lean ====
module

public import proofs.«01_k».proof.Proof.Points
public import proofs.«01_k».proof.Proof.SpecRead

/-! What the body is run from, and what it leaves: the statement shared by its four cases (the first point, an ordinary point, the last
point of a group of 128, the last point of all). -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S128x2816 .bf16) (harg1 : arg1.IsWhole)
  (arg2 : Memref sig .tc .vmem S128x2816 .fp8e4m3) (harg2 : arg2.IsWhole)
  (arg3 : Memref sig .tc .vmem S128x22 .f32) (harg3 : arg3.IsWhole)
  (arg4 : Memref sig .tc .vmem S1x2816 .f32) (harg4 : arg4.IsWhole)
  (arg5 : Memref sig .tc .vmem S128x2816 .fp8e5m2) (harg5 : arg5.IsWhole)
  (arg6 : Memref sig .tc .vmem S128x22 .f32) (harg6 : arg6.IsWhole)
  (arg7 : Memref sig .tc .vmem S2816x128 .fp8e5m2) (harg7 : arg7.IsWhole)
  (arg8 : Memref sig .tc .vmem S2816x128 .f32) (harg8 : arg8.IsWhole)
  (arg9 : Memref sig .tc .vmem S128x2816 .f32) (harg9 : arg9.IsWhole)
  (arg10 : Memref sig .tc .vmem S128x128 .f32) (harg10 : arg10.IsWhole)
  (arg11 : Memref sig .tc .vmem S128x22x128 .f32) (harg11 : arg11.IsWhole)
  (arg12 : Memref sig .tc .vmem S8x2816 .f32) (harg12 : arg12.IsWhole)
  (x1 : Vec F S128x2816 .bf16) (x2 : Vec F S128x2816 .fp8e4m3) (x3 : Vec F S128x22 .f32) (x4 : Vec F S1x2816 .f32) (x5 : Vec F S128x2816 .fp8e5m2) (x6 : Vec F S128x22 .f32)
  (x7 : Vec F S2816x128 .fp8e5m2) (x8 : Vec F S2816x128 .f32) (x9 : Vec F S128x2816 .f32) (x10 : Vec F S128x128 .f32) (x11 : Vec F S128x22x128 .f32) (x12 : Vec F S8x2816 .f32)

/-- Every buffer the body is handed, at given contents. -/
def RunPre : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12)

/-- What the body leaves: the inputs as they were; the row codes, the row scales and the column codes of the point; the row of the column-scale
scratch that the point fills; the running sums `d` with the point's added; and `b` and `s` in the two buffers that only some points write. -/
def RunPost (b : Vec F S1x2816 .f32) (s : Vec F S2816x128 .f32) (d : Vec F S8x2816 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare b ∗ owns (c : Thread nD τ) arg5 fullShare (gQ x1 x2 x3) ∗ owns (c : Thread nD τ) arg6 fullShare (gS x1 x2 x3) ∗ owns (c : Thread nD τ) arg7 fullShare (gC x1 x2 x3) ∗ owns (c : Thread nD τ) arg8 fullShare s ∗ (∃ d, owns (c : Thread nD τ) arg9 fullShare d) ∗ (∃ d, owns (c : Thread nD τ) arg10 fullShare d) ∗ owns (c : Thread nD τ) arg11 fullShare (gR x1 x2 x3 i x11) ∗ owns (c : Thread nD τ) arg12 fullShare (gD x1 x2 x3 d))

section Whole
variable {s : Shape} {α : Type*}

/-- The row maxima as the body loads them back: the whole of the scratch. -/
theorem load_A {sig' : RefSig} {κ : Kind} {sp : Space} (v : View sig' κ sp S128x128 .f32) (f : v.ty.Contents (Elt F))
    (inb : ∀ a, (![0, 0] : Fin 2 → ℕ) a + S128x128.size a ≤ S128x128.size a) (x1 : Vec F S128x2816 .bf16) (x2 : Vec F S128x2816 .fp8e4m3) (x3 : Vec F S128x22 .f32)
    (r : Fin 128) (j : Fin 22) (h : j.val < 128) :
    View.readAt (Elt F) v (Rect.unit ![0, 0] S128x128.size inb).toLoadRect (v.writes (Elt F) f (down (pA x1 x2 x3))) (ix2 r ⟨j.val, h⟩)
      = rowMax (tile x1 x2 x3 j) (ix1 r) := by
  refine Eq.trans ?_ (read_A v f r j h)
  show v.read (Elt F) (v.writes (Elt F) f (down (pA x1 x2 x3))) ((Rect.unit (s := S128x128) ![0, 0] S128x128.size inb).emb (ix2 r ⟨j.val, h⟩)) = _
  refine congrArg _ (ix2_ext ?_ ?_)
  · show 0 + 1 * r.val = r.val; omega
  · show 0 + 1 * j.val = j.val; omega

/-- The running sums as the body loads them back: the whole of the scratch. -/
theorem load_D {sig' : RefSig} {κ : Kind} {sp : Space} (v : View sig' κ sp S8x2816 .f32) (f : v.ty.Contents (Elt F))
    (inb : ∀ a, (![0, 0] : Fin 2 → ℕ) a + S8x2816.size a ≤ S8x2816.size a) :
    View.readAt (Elt F) v (Rect.unit ![0, 0] S8x2816.size inb).toLoadRect f = v.read (Elt F) f := by
  funext y
  show v.read (Elt F) f ((Rect.unit (s := S8x2816) ![0, 0] S8x2816.size inb).emb y) = _
  refine congrArg _ (ix2_ext ?_ ?_)
  · show 0 + 1 * (y 0).val = (y 0).val; omega
  · show 0 + 1 * (y 1).val = (y 1).val; omega
/-- A single row written whole reads as what was written. -/
theorem read_row {sig' : RefSig} {κ : Kind} {sp : Space} (v : View sig' κ sp S1x2816 .f32) (f : v.ty.Contents (Elt F))
    (inb : ∀ a, (![0, 0] : Fin 2 → ℕ) a + S1x2816.size a ≤ S1x2816.size a) (w : Vec F S1x2816 .f32) :
    v.read (Elt F) (v.writes (Elt F) f [⟨Rect.unit ![0, 0] S1x2816.size inb, w⟩]) = w := by
  funext y
  refine View.read_writes_cons_unit_of_mem v f inb _ [] y y rfl fun a => ?_
  match a with
  | ⟨0, _⟩ => show (y 0).val = 0 + (y 0).val; omega
  | ⟨1, _⟩ => show (y 1).val = 0 + (y 1).val; omega

/-! ### The running sums at the first point

There the scratch is set to zero first, and each group then adds to what the zero and the earlier groups left. -/

section First
variable {sig' : RefSig} {κ : Kind} {sp : Space} (v : View sig' κ sp S8x2816 .f32)
variable (x1 : Vec F S128x2816 .bf16) (x2 : Vec F S128x2816 .fp8e4m3) (x3 : Vec F S128x22 .f32)

/-- The `k`-th group. -/
def gi (k : ℕ) : Fin 22 := ⟨k % 22, Nat.mod_lt _ (by decide)⟩

/-- The writes of the running sums at the first point, up to group `k`. -/
def accD : ℕ → List (View.Piece (Elt F) S8x2816 .f32)
  | 0 => [⟨Rect.unit ![0, 0] S8x2816.size inb_S8x2816_S8x2816_0_0, k0_pay20⟩]
  | k + 1 => ⟨Rect.unit ![0, 128 * (gi k).val] S8x128.size (inbD (gi k)), k0_pay26 (tile x1 x2 x3 (gi k))
      (View.readCov v (accD k) (Rect.unit (s := S8x2816) ![0, 128 * (gi k).val] S8x128.size (inbD (gi k))).toLoadRect)⟩ :: accD k

theorem read_accD (k : ℕ) (hk : k ≤ 22) (f : v.ty.Contents (Elt F)) (y : S8x2816.Idx) :
    v.read (Elt F) (v.writes (Elt F) f (accD v x1 x2 x3 k)) y = if (y 1).val < 128 * k then gD x1 x2 x3 k0_pay20 y else k0_pay20 y := by
  induction k generalizing f y with
  | zero =>
    rw [if_neg (by omega)]
    refine View.read_writes_cons_unit_of_mem v f inb_S8x2816_S8x2816_0_0 _ [] y y rfl fun a => ?_
    match a with
    | ⟨0, _⟩ => show (y 0).val = 0 + (y 0).val; omega
    | ⟨1, _⟩ => show (y 1).val = 0 + (y 1).val; omega
  | succ k ih =>
    have hg : (gi k).val = k := Nat.mod_eq_of_lt (by omega)
    unfold accD
    by_cases h : 128 * k ≤ (y 1).val ∧ (y 1).val < 128 * k + 128
    · have hl : (y 1).val - 128 * k < 128 := by omega
      rw [if_pos (by omega)]
      refine (View.read_writes_cons_unit_of_mem v f (inbD (gi k)) _ _ y (ix2 (y 0) ⟨(y 1).val - 128 * k, hl⟩) rfl fun a => ?_).trans ?_
      · match a with
        | ⟨0, _⟩ => show (y 0).val = 0 + (y 0).val; omega
        | ⟨1, _⟩ => show (y 1).val = 128 * (gi k).val + ((y 1).val - 128 * k); omega
      · refine Eq.trans ?_ (gD_at k0_pay20 (gi k) (y 0) ⟨(y 1).val - 128 * k, hl⟩ y rfl (show (y 1).val = 128 * (gi k).val + 1 * ((y 1).val - 128 * k) by omega)).symm
        have e : ∀ Y : Vec F S8x128 .f32, k0_pay26 (tile x1 x2 x3 (gi k)) Y
            = shapeCast S8x128 (fun x => FloatOps.addf (Y x) (foldRows (tile x1 x2 x3 (gi k)) x)) shapeCasts_S8x128_S8x128 := fun _ => rfl
        rw [e, shapeCast_id]
        refine congrArg (fun z => FloatOps.addf z (foldRows (tile x1 x2 x3 (gi k)) (ix2 (y 0) ⟨(y 1).val - 128 * k, hl⟩))) ?_
        refine (ih (by omega) v.junk ((Rect.unit (s := S8x2816) ![0, 128 * (gi k).val] S8x128.size (inbD (gi k))).emb (ix2 (y 0) ⟨(y 1).val - 128 * k, hl⟩))).trans ?_
        have e1 : (((Rect.unit (s := S8x2816) ![0, 128 * (gi k).val] S8x128.size (inbD (gi k))).emb (ix2 (y 0) ⟨(y 1).val - 128 * k, hl⟩) : S8x2816.Idx) 1).val
            = 128 * (gi k).val + 1 * ((y 1).val - 128 * k) := rfl
        rw [if_neg (by omega)]
        rfl
    · refine (View.read_writes_cons_unit_of_not_mem v f (inbD (gi k)) _ _ y rfl 1 ?_).trans ((ih (by omega) f y).trans ?_)
      · show (y 1).val < 128 * (gi k).val ∨ 128 * (gi k).val + 128 ≤ (y 1).val
        omega
      · by_cases h' : (y 1).val < 128 * k
        · rw [if_pos h', if_pos (by omega)]
        · rw [if_neg h', if_neg (by omega)]

theorem read_firstD (f : v.ty.Contents (Elt F)) : v.read (Elt F) (v.writes (Elt F) f (accD v x1 x2 x3 22)) = gD x1 x2 x3 k0_pay20 := by
  funext y
  rw [read_accD v x1 x2 x3 22 (Nat.le_refl _) f y, if_pos]
  have := ValueIdx.idx2_lt1 y; omega

end First
end Whole

end Cert.KernelIdeal.Hand

end
-- ==== Proof.RunA.lean ====
module

public import proofs.«01_k».proof.Proof.RunSpec

/-! The body at the first point: the running sums start from zero. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S128x2816 .bf16) (harg1 : arg1.IsWhole)
  (arg2 : Memref sig .tc .vmem S128x2816 .fp8e4m3) (harg2 : arg2.IsWhole)
  (arg3 : Memref sig .tc .vmem S128x22 .f32) (harg3 : arg3.IsWhole)
  (arg4 : Memref sig .tc .vmem S1x2816 .f32) (harg4 : arg4.IsWhole)
  (arg5 : Memref sig .tc .vmem S128x2816 .fp8e5m2) (harg5 : arg5.IsWhole)
  (arg6 : Memref sig .tc .vmem S128x22 .f32) (harg6 : arg6.IsWhole)
  (arg7 : Memref sig .tc .vmem S2816x128 .fp8e5m2) (harg7 : arg7.IsWhole)
  (arg8 : Memref sig .tc .vmem S2816x128 .f32) (harg8 : arg8.IsWhole)
  (arg9 : Memref sig .tc .vmem S128x2816 .f32) (harg9 : arg9.IsWhole)
  (arg10 : Memref sig .tc .vmem S128x128 .f32) (harg10 : arg10.IsWhole)
  (arg11 : Memref sig .tc .vmem S128x22x128 .f32) (harg11 : arg11.IsWhole)
  (arg12 : Memref sig .tc .vmem S8x2816 .f32) (harg12 : arg12.IsWhole)
  (x1 : Vec F S128x2816 .bf16) (x2 : Vec F S128x2816 .fp8e4m3) (x3 : Vec F S128x22 .f32) (x4 : Vec F S1x2816 .f32) (x5 : Vec F S128x2816 .fp8e5m2) (x6 : Vec F S128x22 .f32)
  (x7 : Vec F S2816x128 .fp8e5m2) (x8 : Vec F S2816x128 .f32) (x9 : Vec F S128x2816 .f32) (x10 : Vec F S128x128 .f32) (x11 : Vec F S128x22x128 .f32) (x12 : Vec F S8x2816 .f32)

set_option maxHeartbeats 8000000 in
theorem run_A (hc0 : cond0_0 i) (hc1 : ¬cond0_1 i) (hc2 : ¬cond0_2 i) (E : Set ℕ) (K : PUnit → sProp 𝕄) :
    iprop(RunPre c arg1 arg2 arg3 arg4 arg5 arg6 arg7 arg8 arg9 arg10 arg11 arg12 x1 x2 x3 x4 x5 x6 x7 x8 x9 x10 x11 x12 ∗ (iprop(RunPost c i arg1 arg2 arg3 arg4 arg5 arg6 arg7 arg8 arg9 arg10 arg11 arg12 x1 x2 x3 x11 x4 x8 k0_pay20) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K := by
  simp only [cc0__lambda__eq_skeleton]; unfold cc0__lambda__skel
  simp only [k0_part75_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton, k0_part26_eq_skeleton,
    k0_part27_eq_skeleton, k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton, k0_part38_eq_skeleton,
    k0_part39_eq_skeleton, k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton, k0_part56_eq_skeleton,
    k0_part57_eq_skeleton, k0_part58_eq_skeleton, k0_part59_eq_skeleton, k0_part60_eq_skeleton, k0_part61_eq_skeleton, k0_part62_eq_skeleton,
    k0_part63_eq_skeleton, k0_part64_eq_skeleton, k0_part65_eq_skeleton, k0_part66_eq_skeleton, k0_part67_eq_skeleton, k0_part68_eq_skeleton,
    k0_part69_eq_skeleton, k0_part70_eq_skeleton, k0_part71_eq_skeleton, k0_part72_eq_skeleton, k0_part73_eq_skeleton, k0_part74_eq_skeleton,
    k0_part1_eq_skeleton, k0_part2_eq_skeleton, k0_part3_eq_skeleton]
  unfold RunPre RunPost owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1; subst hf2; subst hf3; subst hf4; subst hf5; subst hf6; subst hf7; subst hf8; subst hf9; subst hf10; subst hf11; subst hf12
  sl_exec (disch := first | sl_exact hc0 | sl_exact hc1 | sl_exact hc2)
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; exact Eq.trans (by sl_kernel_rfl) (read_Q _ (fun r j h => load_A arg10.view f10 inb_S128x128_S128x128_0_0 _ _ _ r j h) _ (read_V arg9.view arg9.view.junk) arg5.view f5)
  isplitl [H6]; · iexists _; isplitr; swap; (· iexact H6); ipureintro; exact Eq.trans (by sl_kernel_rfl) (read_S _ (fun r j h => load_A arg10.view f10 inb_S128x128_S128x128_0_0 _ _ _ r j h) inb_S128x22_S128x22_0_0 arg6.view f6)
  isplitl [H7]; · iexists _; isplitr; swap; (· iexact H7); ipureintro; exact Eq.trans (by sl_kernel_rfl) (read_C arg7.view f7)
  isplitl [H8]; · iexists _; isplitr; swap; (· iexact H8); ipureintro; rfl
  isplitl [H9]; · iexists _, _; isplitr; swap; (· iexact H9); ipureintro; rfl
  isplitl [H10]; · iexists _, _; isplitr; swap; (· iexact H10); ipureintro; rfl
  isplitl [H11]; · iexists _; isplitr; swap; (· iexact H11); ipureintro; exact Eq.trans (by sl_kernel_rfl) (read_R i arg11.view f11)
  iexists _; isplitr; swap; (· iexact H12); ipureintro; exact Eq.trans (by sl_kernel_rfl) (read_firstD arg12.view _ _ _ f12)

end Cert.KernelIdeal.Hand

end
-- ==== Proof.RunB.lean ====
module

public import proofs.«01_k».proof.Proof.RunSpec

/-! The body at an ordinary point. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S128x2816 .bf16) (harg1 : arg1.IsWhole)
  (arg2 : Memref sig .tc .vmem S128x2816 .fp8e4m3) (harg2 : arg2.IsWhole)
  (arg3 : Memref sig .tc .vmem S128x22 .f32) (harg3 : arg3.IsWhole)
  (arg4 : Memref sig .tc .vmem S1x2816 .f32) (harg4 : arg4.IsWhole)
  (arg5 : Memref sig .tc .vmem S128x2816 .fp8e5m2) (harg5 : arg5.IsWhole)
  (arg6 : Memref sig .tc .vmem S128x22 .f32) (harg6 : arg6.IsWhole)
  (arg7 : Memref sig .tc .vmem S2816x128 .fp8e5m2) (harg7 : arg7.IsWhole)
  (arg8 : Memref sig .tc .vmem S2816x128 .f32) (harg8 : arg8.IsWhole)
  (arg9 : Memref sig .tc .vmem S128x2816 .f32) (harg9 : arg9.IsWhole)
  (arg10 : Memref sig .tc .vmem S128x128 .f32) (harg10 : arg10.IsWhole)
  (arg11 : Memref sig .tc .vmem S128x22x128 .f32) (harg11 : arg11.IsWhole)
  (arg12 : Memref sig .tc .vmem S8x2816 .f32) (harg12 : arg12.IsWhole)
  (x1 : Vec F S128x2816 .bf16) (x2 : Vec F S128x2816 .fp8e4m3) (x3 : Vec F S128x22 .f32) (x4 : Vec F S1x2816 .f32) (x5 : Vec F S128x2816 .fp8e5m2) (x6 : Vec F S128x22 .f32)
  (x7 : Vec F S2816x128 .fp8e5m2) (x8 : Vec F S2816x128 .f32) (x9 : Vec F S128x2816 .f32) (x10 : Vec F S128x128 .f32) (x11 : Vec F S128x22x128 .f32) (x12 : Vec F S8x2816 .f32)

set_option maxHeartbeats 8000000 in
theorem run_B (hc0 : ¬cond0_0 i) (hc1 : ¬cond0_1 i) (hc2 : ¬cond0_2 i) (E : Set ℕ) (K : PUnit → sProp 𝕄) :
    iprop(RunPre c arg1 arg2 arg3 arg4 arg5 arg6 arg7 arg8 arg9 arg10 arg11 arg12 x1 x2 x3 x4 x5 x6 x7 x8 x9 x10 x11 x12 ∗ (iprop(RunPost c i arg1 arg2 arg3 arg4 arg5 arg6 arg7 arg8 arg9 arg10 arg11 arg12 x1 x2 x3 x11 x4 x8 x12) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K := by
  simp only [cc0__lambda__eq_skeleton]; unfold cc0__lambda__skel
  simp only [k0_part75_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton, k0_part26_eq_skeleton,
    k0_part27_eq_skeleton, k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton, k0_part38_eq_skeleton,
    k0_part39_eq_skeleton, k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton, k0_part56_eq_skeleton,
    k0_part57_eq_skeleton, k0_part58_eq_skeleton, k0_part59_eq_skeleton, k0_part60_eq_skeleton, k0_part61_eq_skeleton, k0_part62_eq_skeleton,
    k0_part63_eq_skeleton, k0_part64_eq_skeleton, k0_part65_eq_skeleton, k0_part66_eq_skeleton, k0_part67_eq_skeleton, k0_part68_eq_skeleton,
    k0_part69_eq_skeleton, k0_part70_eq_skeleton, k0_part71_eq_skeleton, k0_part72_eq_skeleton, k0_part73_eq_skeleton, k0_part74_eq_skeleton,
    k0_part1_eq_skeleton, k0_part2_eq_skeleton, k0_part3_eq_skeleton]
  unfold RunPre RunPost owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1; subst hf2; subst hf3; subst hf4; subst hf5; subst hf6; subst hf7; subst hf8; subst hf9; subst hf10; subst hf11; subst hf12
  sl_exec (disch := first | sl_exact hc0 | sl_exact hc1 | sl_exact hc2)
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; exact Eq.trans (by sl_kernel_rfl) (read_Q _ (fun r j h => load_A arg10.view f10 inb_S128x128_S128x128_0_0 _ _ _ r j h) _ (read_V arg9.view arg9.view.junk) arg5.view f5)
  isplitl [H6]; · iexists _; isplitr; swap; (· iexact H6); ipureintro; exact Eq.trans (by sl_kernel_rfl) (read_S _ (fun r j h => load_A arg10.view f10 inb_S128x128_S128x128_0_0 _ _ _ r j h) inb_S128x22_S128x22_0_0 arg6.view f6)
  isplitl [H7]; · iexists _; isplitr; swap; (· iexact H7); ipureintro; exact Eq.trans (by sl_kernel_rfl) (read_C arg7.view f7)
  isplitl [H8]; · iexists _; isplitr; swap; (· iexact H8); ipureintro; rfl
  isplitl [H9]; · iexists _, _; isplitr; swap; (· iexact H9); ipureintro; rfl
  isplitl [H10]; · iexists _, _; isplitr; swap; (· iexact H10); ipureintro; rfl
  isplitl [H11]; · iexists _; isplitr; swap; (· iexact H11); ipureintro; exact Eq.trans (by sl_kernel_rfl) (read_R i arg11.view f11)
  iexists _; isplitr; swap; (· iexact H12); ipureintro; exact Eq.trans (by sl_kernel_rfl) (read_D _ arg12.view f12)

end Cert.KernelIdeal.Hand

end
-- ==== Proof.RunC.lean ====
module

public import proofs.«01_k».proof.Proof.RunSpec

/-! The body at the last point of a group of 128: the column scales are turned and written out. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S128x2816 .bf16) (harg1 : arg1.IsWhole)
  (arg2 : Memref sig .tc .vmem S128x2816 .fp8e4m3) (harg2 : arg2.IsWhole)
  (arg3 : Memref sig .tc .vmem S128x22 .f32) (harg3 : arg3.IsWhole)
  (arg4 : Memref sig .tc .vmem S1x2816 .f32) (harg4 : arg4.IsWhole)
  (arg5 : Memref sig .tc .vmem S128x2816 .fp8e5m2) (harg5 : arg5.IsWhole)
  (arg6 : Memref sig .tc .vmem S128x22 .f32) (harg6 : arg6.IsWhole)
  (arg7 : Memref sig .tc .vmem S2816x128 .fp8e5m2) (harg7 : arg7.IsWhole)
  (arg8 : Memref sig .tc .vmem S2816x128 .f32) (harg8 : arg8.IsWhole)
  (arg9 : Memref sig .tc .vmem S128x2816 .f32) (harg9 : arg9.IsWhole)
  (arg10 : Memref sig .tc .vmem S128x128 .f32) (harg10 : arg10.IsWhole)
  (arg11 : Memref sig .tc .vmem S128x22x128 .f32) (harg11 : arg11.IsWhole)
  (arg12 : Memref sig .tc .vmem S8x2816 .f32) (harg12 : arg12.IsWhole)
  (x1 : Vec F S128x2816 .bf16) (x2 : Vec F S128x2816 .fp8e4m3) (x3 : Vec F S128x22 .f32) (x4 : Vec F S1x2816 .f32) (x5 : Vec F S128x2816 .fp8e5m2) (x6 : Vec F S128x22 .f32)
  (x7 : Vec F S2816x128 .fp8e5m2) (x8 : Vec F S2816x128 .f32) (x9 : Vec F S128x2816 .f32) (x10 : Vec F S128x128 .f32) (x11 : Vec F S128x22x128 .f32) (x12 : Vec F S8x2816 .f32)

set_option maxHeartbeats 8000000 in
theorem run_C (hc0 : ¬cond0_0 i) (hc1 : cond0_1 i) (hc2 : ¬cond0_2 i) (E : Set ℕ) (K : PUnit → sProp 𝕄) :
    iprop(RunPre c arg1 arg2 arg3 arg4 arg5 arg6 arg7 arg8 arg9 arg10 arg11 arg12 x1 x2 x3 x4 x5 x6 x7 x8 x9 x10 x11 x12 ∗ (iprop(RunPost c i arg1 arg2 arg3 arg4 arg5 arg6 arg7 arg8 arg9 arg10 arg11 arg12 x1 x2 x3 x11 x4 (gK (gR x1 x2 x3 i x11)) x12) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K := by
  simp only [cc0__lambda__eq_skeleton]; unfold cc0__lambda__skel
  simp only [k0_part75_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton, k0_part26_eq_skeleton,
    k0_part27_eq_skeleton, k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton, k0_part38_eq_skeleton,
    k0_part39_eq_skeleton, k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton, k0_part56_eq_skeleton,
    k0_part57_eq_skeleton, k0_part58_eq_skeleton, k0_part59_eq_skeleton, k0_part60_eq_skeleton, k0_part61_eq_skeleton, k0_part62_eq_skeleton,
    k0_part63_eq_skeleton, k0_part64_eq_skeleton, k0_part65_eq_skeleton, k0_part66_eq_skeleton, k0_part67_eq_skeleton, k0_part68_eq_skeleton,
    k0_part69_eq_skeleton, k0_part70_eq_skeleton, k0_part71_eq_skeleton, k0_part72_eq_skeleton, k0_part73_eq_skeleton, k0_part74_eq_skeleton,
    k0_part1_eq_skeleton, k0_part2_eq_skeleton, k0_part3_eq_skeleton]
  unfold RunPre RunPost owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1; subst hf2; subst hf3; subst hf4; subst hf5; subst hf6; subst hf7; subst hf8; subst hf9; subst hf10; subst hf11; subst hf12
  sl_exec (disch := first | sl_exact hc0 | sl_exact hc1 | sl_exact hc2)
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; exact Eq.trans (by sl_kernel_rfl) (read_Q _ (fun r j h => load_A arg10.view f10 inb_S128x128_S128x128_0_0 _ _ _ r j h) _ (read_V arg9.view arg9.view.junk) arg5.view f5)
  isplitl [H6]; · iexists _; isplitr; swap; (· iexact H6); ipureintro; exact Eq.trans (by sl_kernel_rfl) (read_S _ (fun r j h => load_A arg10.view f10 inb_S128x128_S128x128_0_0 _ _ _ r j h) inb_S128x22_S128x22_0_0 arg6.view f6)
  isplitl [H7]; · iexists _; isplitr; swap; (· iexact H7); ipureintro; exact Eq.trans (by sl_kernel_rfl) (read_C arg7.view f7)
  isplitl [H8]; · iexists _; isplitr; swap; (· iexact H8); ipureintro; exact (Eq.trans (by sl_kernel_rfl) (read_K _ arg8.view f8)).trans (congrArg gK (read_R i arg11.view f11))
  isplitl [H9]; · iexists _, _; isplitr; swap; (· iexact H9); ipureintro; rfl
  isplitl [H10]; · iexists _, _; isplitr; swap; (· iexact H10); ipureintro; rfl
  isplitl [H11]; · iexists _; isplitr; swap; (· iexact H11); ipureintro; exact Eq.trans (by sl_kernel_rfl) (read_R i arg11.view f11)
  iexists _; isplitr; swap; (· iexact H12); ipureintro; exact Eq.trans (by sl_kernel_rfl) (read_D _ arg12.view f12)

end Cert.KernelIdeal.Hand

end
-- ==== Proof.RunD.lean ====
module

public import proofs.«01_k».proof.Proof.RunSpec

/-! The body at the last point of all: the bias gradient is written out too. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S128x2816 .bf16) (harg1 : arg1.IsWhole)
  (arg2 : Memref sig .tc .vmem S128x2816 .fp8e4m3) (harg2 : arg2.IsWhole)
  (arg3 : Memref sig .tc .vmem S128x22 .f32) (harg3 : arg3.IsWhole)
  (arg4 : Memref sig .tc .vmem S1x2816 .f32) (harg4 : arg4.IsWhole)
  (arg5 : Memref sig .tc .vmem S128x2816 .fp8e5m2) (harg5 : arg5.IsWhole)
  (arg6 : Memref sig .tc .vmem S128x22 .f32) (harg6 : arg6.IsWhole)
  (arg7 : Memref sig .tc .vmem S2816x128 .fp8e5m2) (harg7 : arg7.IsWhole)
  (arg8 : Memref sig .tc .vmem S2816x128 .f32) (harg8 : arg8.IsWhole)
  (arg9 : Memref sig .tc .vmem S128x2816 .f32) (harg9 : arg9.IsWhole)
  (arg10 : Memref sig .tc .vmem S128x128 .f32) (harg10 : arg10.IsWhole)
  (arg11 : Memref sig .tc .vmem S128x22x128 .f32) (harg11 : arg11.IsWhole)
  (arg12 : Memref sig .tc .vmem S8x2816 .f32) (harg12 : arg12.IsWhole)
  (x1 : Vec F S128x2816 .bf16) (x2 : Vec F S128x2816 .fp8e4m3) (x3 : Vec F S128x22 .f32) (x4 : Vec F S1x2816 .f32) (x5 : Vec F S128x2816 .fp8e5m2) (x6 : Vec F S128x22 .f32)
  (x7 : Vec F S2816x128 .fp8e5m2) (x8 : Vec F S2816x128 .f32) (x9 : Vec F S128x2816 .f32) (x10 : Vec F S128x128 .f32) (x11 : Vec F S128x22x128 .f32) (x12 : Vec F S8x2816 .f32)

set_option maxHeartbeats 8000000 in
theorem run_D (hc0 : ¬cond0_0 i) (hc1 : cond0_1 i) (hc2 : cond0_2 i) (E : Set ℕ) (K : PUnit → sProp 𝕄) :
    iprop(RunPre c arg1 arg2 arg3 arg4 arg5 arg6 arg7 arg8 arg9 arg10 arg11 arg12 x1 x2 x3 x4 x5 x6 x7 x8 x9 x10 x11 x12 ∗ (iprop(RunPost c i arg1 arg2 arg3 arg4 arg5 arg6 arg7 arg8 arg9 arg10 arg11 arg12 x1 x2 x3 x11 (k0_pay1 (gD x1 x2 x3 x12)) (gK (gR x1 x2 x3 i x11)) x12) -∗ K ⟨⟩))
      ⊢ wp frame (wpE (defs₀ (F := F)) Variants.none c none) E (cc0__lambda_ i arg1 harg1 arg2 harg2 arg3 harg3 arg4 harg4 arg5 harg5 arg6 harg6 arg7 harg7 arg8 harg8 arg9 harg9 arg10 harg10 arg11 harg11 arg12 harg12) K := by
  simp only [cc0__lambda__eq_skeleton]; unfold cc0__lambda__skel
  simp only [k0_part75_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton, k0_part26_eq_skeleton,
    k0_part27_eq_skeleton, k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton, k0_part38_eq_skeleton,
    k0_part39_eq_skeleton, k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton, k0_part56_eq_skeleton,
    k0_part57_eq_skeleton, k0_part58_eq_skeleton, k0_part59_eq_skeleton, k0_part60_eq_skeleton, k0_part61_eq_skeleton, k0_part62_eq_skeleton,
    k0_part63_eq_skeleton, k0_part64_eq_skeleton, k0_part65_eq_skeleton, k0_part66_eq_skeleton, k0_part67_eq_skeleton, k0_part68_eq_skeleton,
    k0_part69_eq_skeleton, k0_part70_eq_skeleton, k0_part71_eq_skeleton, k0_part72_eq_skeleton, k0_part73_eq_skeleton, k0_part74_eq_skeleton,
    k0_part1_eq_skeleton, k0_part2_eq_skeleton, k0_part3_eq_skeleton]
  unfold RunPre RunPost owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1; subst hf2; subst hf3; subst hf4; subst hf5; subst hf6; subst hf7; subst hf8; subst hf9; subst hf10; subst hf11; subst hf12
  sl_exec (disch := first | sl_exact hc0 | sl_exact hc1 | sl_exact hc2)
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact Eq.trans (by sl_kernel_rfl) ((read_row arg4.view f4 inb_S1x2816_S1x2816_0_0 _).trans (congrArg k0_pay1 ((load_D arg12.view _ inb_S8x2816_S8x2816_0_0).trans (read_D (arg12.view.read (Elt F) f12) arg12.view arg12.view.junk))))
  isplitl [H5]; · iexists _; isplitr; swap; (· iexact H5); ipureintro; exact Eq.trans (by sl_kernel_rfl) (read_Q _ (fun r j h => load_A arg10.view f10 inb_S128x128_S128x128_0_0 _ _ _ r j h) _ (read_V arg9.view arg9.view.junk) arg5.view f5)
  isplitl [H6]; · iexists _; isplitr; swap; (· iexact H6); ipureintro; exact Eq.trans (by sl_kernel_rfl) (read_S _ (fun r j h => load_A arg10.view f10 inb_S128x128_S128x128_0_0 _ _ _ r j h) inb_S128x22_S128x22_0_0 arg6.view f6)
  isplitl [H7]; · iexists _; isplitr; swap; (· iexact H7); ipureintro; exact Eq.trans (by sl_kernel_rfl) (read_C arg7.view f7)
  isplitl [H8]; · iexists _; isplitr; swap; (· iexact H8); ipureintro; exact (Eq.trans (by sl_kernel_rfl) (read_K _ arg8.view f8)).trans (congrArg gK (read_R i arg11.view f11))
  isplitl [H9]; · iexists _, _; isplitr; swap; (· iexact H9); ipureintro; rfl
  isplitl [H10]; · iexists _, _; isplitr; swap; (· iexact H10); ipureintro; rfl
  isplitl [H11]; · iexists _; isplitr; swap; (· iexact H11); ipureintro; exact Eq.trans (by sl_kernel_rfl) (read_R i arg11.view f11)
  iexists _; isplitr; swap; (· iexact H12); ipureintro; exact Eq.trans (by sl_kernel_rfl) (read_D _ arg12.view f12)

end Cert.KernelIdeal.Hand

end
-- ==== Proof.Obligation.lean ====
module

public import proofs.«01_k».proof.Proof.RunA
public import proofs.«01_k».proof.Proof.RunB
public import proofs.«01_k».proof.Proof.RunC
public import proofs.«01_k».proof.Proof.RunD
public import Idealize.ShloMosaic.Lib.Claim

/-! The body at a generic grid point, and the run of the whole grid.

Between points the kernel carries the running sums and the column scales of the current group of 128 points; everything else is
rewritten at each point. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What is carried -/

/-- The `n`-th point. -/
def pt (n : ℕ) : Fin cfg0.N := ⟨n % 512, lt_of_lt_of_eq (Nat.mod_lt _ (by decide)) N_0.symm⟩

theorem pt_eq (n : ℕ) (h : n < cfg0.N) : pt n = ⟨n, h⟩ := Fin.ext (Nat.mod_eq_of_lt (lt_of_lt_of_eq h N_0))

/-- The three blocks the point reads. -/
def X1 (c : Dev nD) (t : Fin cfg0.N) : Vec F S128x2816 .bf16 := iblk m c 0 t
def X2 (c : Dev nD) (t : Fin cfg0.N) : Vec F S128x2816 .fp8e4m3 := iblk m c 1 t
def X3 (c : Dev nD) (t : Fin cfg0.N) : Vec F S128x22 .f32 := iblk m c 2 t

/-- The running sums before point `n`. -/
def dAt (c : Dev nD) : ℕ → Vec F S8x2816 .f32
  | 0 => k0_pay20
  | n + 1 => gD (X1 m c (pt n)) (X2 m c (pt n)) (X3 m c (pt n)) (dAt c n)

/-- The column scales of the group of 128 points that `n` belongs to. -/
def fullR (c : Dev nD) (n : ℕ) : Vec F S128x22x128 .f32 := fun y =>
  scaleOf (colNorm (X1 m c (pt (128 * (n / 128) + (y 0).val))) (X2 m c (pt (128 * (n / 128) + (y 0).val))) (X3 m c (pt (128 * (n / 128) + (y 0).val))) (y 1) (y 2))

/-- After point `n` the rows of the column-scale scratch up to the point's own are filled. -/
def Filled (c : Dev nD) (n : ℕ) (d : Vec F S128x22x128 .f32) : Prop := ∀ y : S128x22x128.Idx, (y 0).val ≤ n % 128 → d y = fullR m c n y

theorem coords_val (t : Fin cfg0.N) : (grid0.coords t 0).val = t.val := by
  have e : (grid0.coords t 0).val = t.val / 1 % 512 := Pipeline.Grid.coords_val t 0 (by decide) rfl
  have hN : t.val < 512 := lt_of_lt_of_eq t.isLt N_0
  omega

theorem filled_step (c : Dev nD) (t : Fin cfg0.N) (d : Vec F S128x22x128 .f32) (h : t.val ≠ 0 → Filled m c (t.val - 1) d) :
    Filled m c t.val (gR (X1 m c t) (X2 m c t) (X3 m c t) (grid0.coords t) d) := by
  intro y hy
  have hN : t.val < 512 := lt_of_lt_of_eq t.isLt N_0
  have hs : slotOf (grid0.coords t) = t.val % 128 := by rw [slotOf_eq, coords_val]
  by_cases hy' : (y 0).val = slotOf (grid0.coords t)
  · rw [gR_at _ _ _ hy']
    unfold fullR
    have e : pt (128 * (t.val / 128) + (y 0).val) = t := Fin.ext (by show (128 * (t.val / 128) + (y 0).val) % 512 = t.val; omega)
    rw [e]
  · unfold gR
    rw [if_neg hy', h (by omega) y (by omega)]
    unfold fullR
    rw [show (t.val - 1) / 128 = t.val / 128 by omega]

theorem filled_full (c : Dev nD) (n : ℕ) (hn : n % 128 = 127) (d : Vec F S128x22x128 .f32) (h : Filled m c n d) : d = fullR m c n :=
  funext fun y => h y (by have : (y 0).val < 128 := (y 0).isLt; omega)

/-! ## The body at a point -/

theorem run_at (c : Dev nD) (t : Fin cfg0.N) (x1 : Vec F S128x2816 .bf16) (x2 : Vec F S128x2816 .fp8e4m3) (x3 : Vec F S128x22 .f32) (x4 : Vec F S1x2816 .f32) (x5 : Vec F S128x2816 .fp8e5m2) (x6 : Vec F S128x22 .f32) (x7 : Vec F S2816x128 .fp8e5m2) (x8 : Vec F S2816x128 .f32) (x9 : Vec F S128x2816 .f32) (x10 : Vec F S128x128 .f32) (x11 : Vec F S128x22x128 .f32) (x12 : Vec F S8x2816 .f32) (E : Set ℕ) (K : PUnit → sProp 𝕄) :
    iprop(RunPre c (ms0_0 t) (ms0_1 t) (ms0_2 t) (ms0_3 t) (ms0_4 t) (ms0_5 t) (ms0_6 t) (ms0_7 t) scM0_0 scM0_1 scM0_2 scM0_3 x1 x2 x3 x4 x5 x6 x7 x8 x9 x10 x11 x12
        ∗ (iprop(RunPost c (grid0.coords t) (ms0_0 t) (ms0_1 t) (ms0_2 t) (ms0_3 t) (ms0_4 t) (ms0_5 t) (ms0_6 t) (ms0_7 t) scM0_0 scM0_1 scM0_2 scM0_3 x1 x2 x3 x11
            (if t.val = 511 then k0_pay1 (gD x1 x2 x3 x12) else x4) (if t.val % 128 = 127 then gK (gR x1 x2 x3 (grid0.coords t) x11) else x8)
            (if t.val = 0 then k0_pay20 else x12)) -∗ K ⟨⟩))
      ⊢ wp frame (wpE (defs₀ (F := F)) Variants.none c none) E (bodyAt0 t) K := by
  have hN : t.val < 512 := lt_of_lt_of_eq t.isLt N_0
  unfold bodyAt0
  by_cases h0 : t.val = 0
  · rw [if_neg (by omega), if_neg (by omega), if_pos h0]
    exact run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) x1 x2 x3 x4 x5 x6 x7 x8 x9 x10 x11 x12 ((hcond0_0 t).mpr (by omega)) (fun h => by have := (hcond0_1 t).mp h; omega) (fun h => by have := (hcond0_2 t).mp h; omega) E K
  · have c0 : ¬cond0_0 (grid0.coords t) := fun h => by have := (hcond0_0 t).mp h; omega
    by_cases h1 : t.val % 128 = 127
    · by_cases h2 : t.val = 511
      · rw [if_pos h2, if_pos h1, if_neg h0]
        exact run_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) x1 x2 x3 x4 x5 x6 x7 x8 x9 x10 x11 x12 c0 ((hcond0_1 t).mpr h1) ((hcond0_2 t).mpr (by omega)) E K
      · rw [if_neg h2, if_pos h1, if_neg h0]
        exact run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) x1 x2 x3 x4 x5 x6 x7 x8 x9 x10 x11 x12 c0 ((hcond0_1 t).mpr h1) (fun h => by have := (hcond0_2 t).mp h; omega) E K
    · rw [if_neg (by omega), if_neg h1, if_neg h0]
      exact run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) x1 x2 x3 x4 x5 x6 x7 x8 x9 x10 x11 x12 c0 (fun h => h1 ((hcond0_1 t).mp h)) (fun h => by have := (hcond0_2 t).mp h; omega) E K

/-! ## The proof data -/

/-- The invariant before position `n`. -/
def PhiS (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d) ∗ (∃ d, ⌜Filled m c n d⌝ ∗ owns (c : Thread nD τ) scM0_2 fullShare d) ∗ owns (c : Thread nD τ) scM0_3 fullShare (dAt m c (n + 1))) ∗ (∃ r, prngReg c r))

/-- Each input's block stays; the outputs at what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (dAt m c 512)
    | ⟨4, _⟩ => gQ (X1 m c t) (X2 m c t) (X3 m c t)
    | ⟨5, _⟩ => gS (X1 m c t) (X2 m c t) (X3 m c t)
    | ⟨6, _⟩ => gC (X1 m c t) (X2 m c t) (X3 m c t)
    | ⟨7, _⟩ => gK (fullR m c t.val)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay1 (dAt m c 512) := by dsimp only [dats]
theorem after0_4 (c : Dev nD) (t : Fin cfg0.N) : (dats m 0 c).after 4 t = gQ (X1 m c t) (X2 m c t) (X3 m c t) := by dsimp only [dats]
theorem after0_5 (c : Dev nD) (t : Fin cfg0.N) : (dats m 0 c).after 5 t = gS (X1 m c t) (X2 m c t) (X3 m c t) := by dsimp only [dats]
theorem after0_6 (c : Dev nD) (t : Fin cfg0.N) : (dats m 0 c).after 6 t = gC (X1 m c t) (X2 m c t) (X3 m c t) := by dsimp only [dats]
theorem after0_7 (c : Dev nD) (t : Fin cfg0.N) : (dats m 0 c).after 7 t = gK (fullR m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What the region finds in the carried scratches, at any point: before the first, anything. -/
theorem Phi_in (c : Dev nD) (t : Fin cfg0.N) : (dats m 0 c).Φ t.castSucc
    ⊢ iprop(iprop((∃ d, owns (c : Thread nD τ) scM0_0 fullShare d) ∗ (∃ d, owns (c : Thread nD τ) scM0_1 fullShare d) ∗ (∃ d, ⌜t.val ≠ 0 → Filled m c (t.val - 1) d⌝ ∗ owns (c : Thread nD τ) scM0_2 fullShare d) ∗ (∃ d, ⌜t.val ≠ 0 → d = dAt m c t.val⌝ ∗ owns (c : Thread nD τ) scM0_3 fullShare d)) ∗ (∃ r, prngReg c r)) := by
  rw [show (dats m 0 c).Φ t.castSucc = PhiS m c t.val from rfl]
  rcases hn : t.val with _ | n
  · rw [show PhiS m c 0 = Pipeline.ΦA spec0 c from rfl, PhiA0_eq]
    iintro ⟨⟨HS0, HS1, ⟨%d2, HS2⟩, ⟨%d3, HS3⟩⟩, Hg⟩
    isplitl [HS0 HS1 HS2 HS3]
    · isplitl [HS0]; · iexact HS0
      isplitl [HS1]; · iexact HS1
      isplitl [HS2]
      · iexists d2; isplitr; · ipureintro; exact fun h => absurd rfl h
        iexact HS2
      · iexists d3; isplitr; · ipureintro; exact fun h => absurd rfl h
        iexact HS3
    iexact Hg
  · rw [show PhiS m c (n + 1) = iprop(iprop((∃ d, owns (c : Thread nD τ) scM0_0 fullShare d) ∗ (∃ d, owns (c : Thread nD τ) scM0_1 fullShare d) ∗ (∃ d, ⌜Filled m c n d⌝ ∗ owns (c : Thread nD τ) scM0_2 fullShare d) ∗ owns (c : Thread nD τ) scM0_3 fullShare (dAt m c (n + 1))) ∗ (∃ r, prngReg c r)) from rfl]
    iintro ⟨⟨HS0, HS1, ⟨%d2, %h2, HS2⟩, HS3⟩, Hg⟩
    isplitl [HS0 HS1 HS2 HS3]
    · isplitl [HS0]; · iexact HS0
      isplitl [HS1]; · iexact HS1
      isplitl [HS2]
      · iexists d2; isplitr; · ipureintro; exact fun _ => h2
        iexact HS2
      · iexists _; isplitr; swap; · iexact HS3
        ipureintro; exact fun _ => rfl
    iexact Hg

theorem leaves3 (c : Dev nD) (t : Fin cfg0.N) (d) : owns (c : Thread nD τ) (ms0_3 t) fullShare (if t.val = 511 then k0_pay1 (dAt m c 512) else (dats m 0 c).before 3 t d)
    ⊢ (dats m 0 c).leavesExact 3 t := by
  have hN : t.val < 512 := lt_of_lt_of_eq t.isLt N_0
  by_cases h : t.val = 511
  · rw [if_pos h, show (dats m 0 c).leavesExact 3 t = owns (c : Thread nD τ) (ms0_3 t) fullShare ((dats m 0 c).after 3 t) from by
      unfold Dat.leavesExact; rw [(flush0_3 t).mpr (by omega)]; cases cfg0.idle 3 (cfg0.grid.coords t) <;> rfl, after0_3]
  · have hi : cfg0.idle 3 (cfg0.grid.coords t) = true := by
      show (!(k0_cond3 (grid0.coords t) == 1#1)) = true
      rw [Bool.not_eq_true', beq_eq_false_iff_ne]
      exact fun e => by have := (hcond0_2 t).mp e; omega
    have hf : (cfg0.win 3).flush t = false := by
      rw [← Bool.not_eq_true]; exact fun e => by have := (flush0_3 t).mp e; omega
    rw [if_neg h, (dats m 0 c).leavesExact_idle 3 t hi hf]
    iintro H; iexists d; iexact H

theorem leaves7 (c : Dev nD) (t : Fin cfg0.N) (d) : owns (c : Thread nD τ) (ms0_7 t) fullShare (if t.val % 128 = 127 then gK (fullR m c t.val) else (dats m 0 c).before 7 t d)
    ⊢ (dats m 0 c).leavesExact 7 t := by
  by_cases h : t.val % 128 = 127
  · rw [if_pos h, show (dats m 0 c).leavesExact 7 t = owns (c : Thread nD τ) (ms0_7 t) fullShare ((dats m 0 c).after 7 t) from by
      unfold Dat.leavesExact; rw [(flush0_7 t).mpr h]; cases cfg0.idle 7 (cfg0.grid.coords t) <;> rfl, after0_7]
  · have hi : cfg0.idle 7 (cfg0.grid.coords t) = true := by
      show (!(k0_cond2 (grid0.coords t) == 1#1)) = true
      rw [Bool.not_eq_true', beq_eq_false_iff_ne]
      exact fun e => h ((hcond0_1 t).mp e)
    have hf : (cfg0.win 7).flush t = false := by
      rw [← Bool.not_eq_true]; exact fun e => h ((flush0_7 t).mp e)
    rw [if_neg h, (dats m 0 c).leavesExact_idle 7 t hi hf]
    iintro H; iexists d; iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).owesAt () t.succ = (dats m 0 c).owesAt () t.castSucc from rfl]
  rw [show (dats m 0 c).Φ t.succ = iprop(iprop((∃ d, owns (c : Thread nD τ) scM0_0 fullShare d) ∗ (∃ d, owns (c : Thread nD τ) scM0_1 fullShare d) ∗ (∃ d, ⌜Filled m c t.val d⌝ ∗ owns (c : Thread nD τ) scM0_2 fullShare d) ∗ owns (c : Thread nD τ) scM0_3 fullShare (dAt m c (t.val + 1))) ∗ (∃ r, prngReg c r)) from rfl]
  have hN : t.val < 512 := lt_of_lt_of_eq t.isLt N_0
  have hpt : pt t.val = t := pt_eq t.val t.isLt
  refine (sep_mono (Phi_in m c t) .rfl).trans ?_
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  iintro ⟨⟨⟨⟨%e9, HS0⟩, ⟨%e10, HS1⟩, ⟨%e11, %hfill, HS2⟩, ⟨%e12, %hd, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hdt : gD (X1 m c t) (X2 m c t) (X3 m c t) (if t.val = 0 then k0_pay20 else e12) = dAt m c (t.val + 1) := by
    show _ = gD (X1 m c (pt t.val)) (X2 m c (pt t.val)) (X3 m c (pt t.val)) (dAt m c t.val)
    rw [hpt]
    by_cases h0 : t.val = 0
    · rw [if_pos h0, h0]; rfl
    · rw [if_neg h0, hd h0]
  have h3 : (if t.val = 511 then k0_pay1 (gD (X1 m c t) (X2 m c t) (X3 m c t) e12) else (dats m 0 c).before 3 t d3)
      = (if t.val = 511 then k0_pay1 (dAt m c 512) else (dats m 0 c).before 3 t d3) := by
    by_cases h : t.val = 511
    · rw [if_pos h, if_pos h, ← show dAt m c (t.val + 1) = dAt m c 512 by rw [h], ← hdt, if_neg (by omega)]
    · rw [if_neg h, if_neg h]
  have hR := filled_step m c t e11 hfill
  have h7 : (if t.val % 128 = 127 then gK (gR (X1 m c t) (X2 m c t) (X3 m c t) (grid0.coords t) e11) else (dats m 0 c).before 7 t d7)
      = (if t.val % 128 = 127 then gK (fullR m c t.val) else (dats m 0 c).before 7 t d7) := by
    by_cases h : t.val % 128 = 127
    · rw [if_pos h, if_pos h, filled_full m c t.val h _ hR]
    · rw [if_neg h, if_neg h]
  have R := run_at (F := F) c t (X1 m c t) (X2 m c t) (X3 m c t) ((dats m 0 c).before 3 t d3) ((dats m 0 c).before 4 t d4) ((dats m 0 c).before 5 t d5) ((dats m 0 c).before 6 t d6) ((dats m 0 c).before 7 t d7) e9 e10 e11 e12 Set.univ
  unfold RunPre RunPost at R
  rw [hdt, h3, h7] at R
  iapply (R _)
  isplitl [H0 H1 H2 H3 H4 H5 H6 H7 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iexact HS3
  iintro ⟨H0, H1, H2, H3, H4, H5, H6, H7, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; swap; · iexact HS2
        ipureintro; exact hR
      iexact HS3
    iexact Hg
  isplitl [Ho]; · iexact Ho
  isplitl [H0]; · iexact H0
  isplitl [H1]; · iexact H1
  isplitl [H2]; · iexact H2
  isplitl [H3]; · iapply (leaves3 m c t d3); iexact H3
  isplitl [H4]; · iexact H4
  isplitl [H5]; · iexact H5
  isplitl [H6]; · iexact H6
  iapply (leaves7 m c t d7); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have hN : cfg0.N = 511 + 1 := N_0
  rw [show (dats m 0 c).Φ (Fin.last cfg0.N) = PhiS m c cfg0.N from rfl, hN]
  rw [show PhiS m c (511 + 1) = iprop(iprop((∃ d, owns (c : Thread nD τ) scM0_0 fullShare d) ∗ (∃ d, owns (c : Thread nD τ) scM0_1 fullShare d) ∗ (∃ d, ⌜Filled m c 511 d⌝ ∗ owns (c : Thread nD τ) scM0_2 fullShare d) ∗ owns (c : Thread nD τ) scM0_3 fullShare (dAt m c (511 + 1))) ∗ (∃ r, prngReg c r)) from rfl, PhiA0_eq]
  iintro ⟨⟨HS0, HS1, ⟨%d2, %h2, HS2⟩, HS3⟩, Hg⟩
  isplitl [HS0 HS1 HS2 HS3]
  · isplitl [HS0]; · iexact HS0
    isplitl [HS1]; · iexact HS1
    isplitl [HS2]; · iexists _; iexact HS2
    iexists _; iexact HS3
  iexact Hg

/-! ## The run and the frame -/

set_option backward.isDefEq.respectTransparency.types false in
/-- The whole program runs to its end, and leaves every window's array as the points' write-backs make it. -/
theorem run_main : θ_run defs (onTc (τ := τ) (main (F := F))) (s₀ m ρ) (fun r => (Pipeline.FramePost cfgs (dats m) 0 (V m)) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    _ (fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Hand

end
-- ==== Proof.Gelu.lean ====
module

public import Idealize.ShloMosaic.PureOps.Ideal
public import Mathlib.Analysis.SpecialFunctions.Trigonometric.DerivHyp

/-! The derivative of the tanh form of GELU, over the extended reals.

The kernel scales its input by `A`, the cube root of `K * C`, so that the inner polynomial becomes `y (y² + K / A)`, and writes
the derivative as one product.  Here that product is the textbook derivative, and the derivative is at most 2 in magnitude. -/

@[expose] public section

noncomputable section

namespace Cert.Gelu

open Idealize.ShloMosaic

/-- The kernel's factor, at the scaled input `y`, before its 3/2. -/
def kernFactor (A K : ℝ) (y : EReal) : EReal :=
  (1 + Ideal.tanh (y * (y * y + ((K * A⁻¹ : ℝ) : EReal))))
    * ((1 - Ideal.tanh (y * (y * y + ((K * A⁻¹ : ℝ) : EReal)))) * (y * (y * y + ((1 / 3 * (K * A⁻¹) : ℝ) : EReal))) + ((1 / 3 : ℝ) : EReal))

/-- The argument of the hyperbolic tangent. -/
def inner (K C : ℝ) (x : EReal) : EReal := (K : EReal) * (x + (C : EReal) * x * x * x)

/-- The textbook derivative. -/
def refFactor (K C : ℝ) (x : EReal) : EReal :=
  ((1 / 2 : ℝ) : EReal) * (1 + Ideal.tanh (inner K C x))
    + ((1 / 2 : ℝ) : EReal) * x * (1 - Ideal.tanh (inner K C x) * Ideal.tanh (inner K C x)) * (K : EReal)
      * (1 + ((3 * C : ℝ) : EReal) * x * x)

theorem tanh_top : Ideal.tanh ⊤ = 1 := rfl
theorem tanh_bot : Ideal.tanh ⊥ = -1 := rfl
theorem tanh_real (r : ℝ) : Ideal.tanh (r : EReal) = (Real.tanh r : EReal) := rfl

theorem one_sub_one : (1 : EReal) - 1 = 0 := by rw [← EReal.coe_one, ← EReal.coe_sub, sub_self, EReal.coe_zero]
theorem one_add_neg_one : (1 : EReal) + -1 = 0 := by rw [← sub_eq_add_neg]; exact one_sub_one

theorem kern_top {A K : ℝ} (hA : 0 < A) : ((3 / 2 : ℝ) : EReal) * kernFactor A K (⊤ * (A : EReal)) = 1 := by
  unfold kernFactor
  rw [EReal.top_mul_coe_of_pos hA, EReal.top_mul_top, EReal.top_add_coe, EReal.top_add_coe, EReal.top_mul_top, tanh_top, one_sub_one, zero_mul, zero_add]
  rw [← EReal.coe_one, ← EReal.coe_add, ← EReal.coe_mul, ← EReal.coe_mul]
  norm_num

theorem kern_bot {A K : ℝ} (hA : 0 < A) : ((3 / 2 : ℝ) : EReal) * kernFactor A K (⊥ * (A : EReal)) = 0 := by
  unfold kernFactor
  rw [EReal.bot_mul_coe_of_pos hA, EReal.bot_mul_bot, EReal.top_add_coe, EReal.bot_mul_top, tanh_bot, one_add_neg_one, zero_mul, mul_zero]

theorem ref_top {K C : ℝ} (hK : 0 < K) (hC : 0 < C) : refFactor K C ⊤ = 1 := by
  unfold refFactor inner
  rw [EReal.coe_mul_top_of_pos hC, EReal.top_mul_top, EReal.top_mul_top, EReal.top_add_top, EReal.coe_mul_top_of_pos hK, tanh_top, mul_one, one_sub_one, mul_zero,
    zero_mul, zero_mul, add_zero, ← EReal.coe_one, ← EReal.coe_add, ← EReal.coe_mul]
  norm_num

theorem ref_bot {K C : ℝ} (hK : 0 < K) (hC : 0 < C) : refFactor K C ⊥ = 0 := by
  unfold refFactor inner
  rw [EReal.coe_mul_bot_of_pos hC, EReal.bot_mul_bot, EReal.top_mul_bot, EReal.bot_add, EReal.coe_mul_bot_of_pos hK, tanh_bot, neg_mul_neg, one_mul, one_sub_one, mul_zero,
    zero_mul, zero_mul, add_zero, one_add_neg_one, mul_zero]

theorem ref_real (K C r : ℝ) : refFactor K C (r : EReal)
    = ((1 / 2 * (1 + Real.tanh (K * (r + C * r * r * r))) + 1 / 2 * r * (1 - Real.tanh (K * (r + C * r * r * r)) * Real.tanh (K * (r + C * r * r * r))) * K * (1 + 3 * C * r * r) : ℝ) : EReal) := by
  unfold refFactor inner
  simp only [← EReal.coe_mul, ← EReal.coe_add, ← EReal.coe_one, ← EReal.coe_sub, tanh_real]

/-- The kernel's product is the derivative. -/
theorem factor_eq {A K : ℝ} (hA : 0 < A) (hK : 0 < K) (x : EReal) :
    ((3 / 2 : ℝ) : EReal) * kernFactor A K (x * (A : EReal)) = refFactor K (A ^ 3 * K⁻¹) x := by
  have hC : 0 < A ^ 3 * K⁻¹ := by positivity
  induction x with
  | bot => rw [kern_bot hA, ref_bot hK hC]
  | top => rw [kern_top hA, ref_top hK hC]
  | coe r =>
    rw [ref_real]
    unfold kernFactor
    simp only [← EReal.coe_mul, ← EReal.coe_add, ← EReal.coe_one, ← EReal.coe_sub, tanh_real]
    have e : r * A * (r * A * (r * A) + K * A⁻¹) = K * (r + A ^ 3 * K⁻¹ * r * r * r) := by field_simp; ring
    rw [e]
    refine congrArg _ ?_
    generalize Real.tanh (K * (r + A ^ 3 * K⁻¹ * r * r * r)) = t
    field_simp
    ring

/-- `1 - tanh² u` falls off faster than `1 / u`. -/
theorem abs_mul_sech (u : ℝ) : |u| * (1 - Real.tanh u * Real.tanh u) ≤ 1 / 2 := by
  have hc : 0 < Real.cosh u := Real.cosh_pos u
  have e : 1 - Real.tanh u * Real.tanh u = (Real.cosh u ^ 2)⁻¹ := by
    rw [Real.tanh_eq_sinh_div_cosh]
    have h := Real.cosh_sq u
    field_simp
    linarith
  have hs : |u| ≤ |Real.sinh u| := by
    rw [Real.abs_sinh]; exact Real.self_le_sinh_iff.mpr (abs_nonneg u)
  have hs2 : u ^ 2 ≤ Real.sinh u ^ 2 := sq_le_sq.mpr hs
  have h2 : 2 * |u| ≤ Real.cosh u ^ 2 := by
    rw [Real.cosh_sq]
    nlinarith [sq_nonneg (|u| - 1), sq_abs u]
  rw [e, ← div_eq_mul_inv, div_le_iff₀ (by positivity)]
  linarith

theorem ref_real_bound {K C : ℝ} (hK : 0 < K) (hC : 0 < C) (r : ℝ) :
    |1 / 2 * (1 + Real.tanh (K * (r + C * r * r * r))) + 1 / 2 * r * (1 - Real.tanh (K * (r + C * r * r * r)) * Real.tanh (K * (r + C * r * r * r))) * K * (1 + 3 * C * r * r)| ≤ 2 := by
  have hp : 0 ≤ C * r * r := by nlinarith [mul_nonneg hC.le (mul_self_nonneg r)]
  have hq : 0 < 1 + C * r * r := by linarith
  have hu : |K * (r + C * r * r * r)| = K * |r| * (1 + C * r * r) := by
    rw [show K * (r + C * r * r * r) = K * r * (1 + C * r * r) by ring, abs_mul, abs_mul, abs_of_pos hK, abs_of_pos hq]
  have h := abs_mul_sech (K * (r + C * r * r * r))
  have ht := Real.abs_tanh_lt_one (K * (r + C * r * r * r))
  rw [hu] at h
  generalize Real.tanh (K * (r + C * r * r * r)) = t at *
  have htt : 0 ≤ 1 - t * t := by nlinarith [abs_lt.mp ht]
  have h2 : |1 / 2 * r * (1 - t * t) * K * (1 + 3 * C * r * r)| ≤ 3 / 4 := by
    rw [show 1 / 2 * r * (1 - t * t) * K * (1 + 3 * C * r * r) = r * (1 / 2 * (1 - t * t) * K * (1 + 3 * (C * r * r))) by ring, abs_mul,
      abs_of_nonneg (mul_nonneg (mul_nonneg (by linarith) hK.le) (by linarith) : 0 ≤ 1 / 2 * (1 - t * t) * K * (1 + 3 * (C * r * r)))]
    nlinarith [mul_nonneg (mul_nonneg hK.le (abs_nonneg r)) htt]
  have h1 : |1 / 2 * (1 + t)| ≤ 1 := by
    rw [abs_le]; have := abs_lt.mp ht; constructor <;> linarith
  exact (abs_add_le _ _).trans (by linarith)

/-- The derivative is a real number of magnitude at most 2, at the infinities too. -/
theorem factor_bound {K C : ℝ} (hK : 0 < K) (hC : 0 < C) (x : EReal) : ∃ r : ℝ, refFactor K C x = (r : EReal) ∧ |r| ≤ 2 := by
  induction x with
  | bot => exact ⟨0, ref_bot hK hC, by norm_num⟩
  | top => exact ⟨1, ref_top hK hC, by norm_num⟩
  | coe r => exact ⟨_, ref_real K C r, ref_real_bound hK hC r⟩

end Cert.Gelu

end
-- ==== Proof.Exponent.lean ====
module

public import proofs.«01_k».proof.Proof.Spec
public import Mathlib.Analysis.SpecialFunctions.Pow.Real

/-! The bit search finds the exponent, and the scale is the power of two that the reference computes with a logarithm. -/

@[expose] public section

noncomputable section

namespace Cert.KernelIdeal.Hand

open Idealize.ShloMosaic

/-- The word whose exponent field is `k` and whose other bits are zero. -/
def bv (k : ℕ) : BitVec 32 := BitVec.ofNat 32 (k * 2 ^ 23)

/-- The value of that word: zero, a power of two, or infinity. -/
def pow2 (k : ℕ) : EReal := if k = 0 then 0 else if 255 ≤ k then ⊤ else (((2 : ℝ) ^ ((k : ℤ) - 127) : ℝ) : EReal)

theorem ofBits_bv (k : ℕ) (hk : k < 256) : Ideal.ofBits .f32 (bv k) = pow2 k := by
  have hex : ((bv k).extractLsb' 23 8).toNat = k := by
    unfold bv
    rw [BitVec.extractLsb'_toNat, BitVec.toNat_ofNat, Nat.shiftRight_eq_div_pow]
    omega
  have hfr : ((bv k).extractLsb' 0 23).toNat = 0 := by
    unfold bv
    rw [BitVec.extractLsb'_toNat, BitVec.toNat_ofNat, Nat.shiftRight_eq_div_pow]
    omega
  have hsg : ((bv k).extractLsb' 31 1 == 1#1) = false := by
    rw [beq_eq_false_iff_ne]
    intro h
    have := congrArg BitVec.toNat h
    unfold bv at this
    rw [BitVec.extractLsb'_toNat, BitVec.toNat_ofNat, Nat.shiftRight_eq_div_pow] at this
    have e : (1#1).toNat = 1 := rfl
    omega
  show Ideal.ieee 8 23 (bv k) = _
  unfold Ideal.ieee pow2
  simp only [hex, hfr, hsg]
  by_cases h0 : k = 0
  · subst h0; simp
  · by_cases h1 : k = 255
    · subst h1; simp
    · rw [if_neg (show ¬k = 2 ^ 8 - 1 by omega), if_neg h0, if_neg h0, if_neg (show ¬255 ≤ k by omega)]
      refine congrArg Real.toEReal ?_
      have e : ((k : ℤ) - (2 ^ (8 - 1) - 1) - (23 : ℕ)) = ((k : ℤ) - 127) - 23 := by norm_num
      rw [e, zpow_sub₀ (by norm_num : (2 : ℝ) ≠ 0) ((k : ℤ) - 127) 23]
      norm_num
      exact mul_div_cancel₀ _ (by norm_num)

theorem pow2_zero : pow2 0 = 0 := rfl
theorem pow2_mid (k : ℕ) (h0 : 0 < k) (h1 : k < 255) : pow2 k = (((2 : ℝ) ^ ((k : ℤ) - 127) : ℝ) : EReal) := by
  unfold pow2; rw [if_neg (by omega), if_neg (by omega)]

/-! ## The search -/

theorem bv_or (s k : ℕ) (hs : s < 8) (hd : 2 ^ (s + 1) ∣ k) (hk : k < 256) : bv k ||| bv (2 ^ s) = bv (k + 2 ^ s) := by
  obtain ⟨q, rfl⟩ := hd
  have h2 : 2 ^ s < 256 := by
    calc 2 ^ s < 2 ^ 8 := Nat.pow_lt_pow_right (by norm_num) hs
      _ = 256 := by norm_num
  refine BitVec.eq_of_toNat_eq ?_
  have hor := Nat.two_pow_add_eq_or_of_lt (i := s + 24) (b := 2 ^ (s + 23)) (Nat.pow_lt_pow_right (by norm_num) (by omega)) q
  have ea : 2 ^ (s + 24) * q = 2 ^ (s + 1) * q * 2 ^ 23 := by rw [show s + 24 = (s + 1) + 23 by omega, pow_add]; ring
  have eb : 2 ^ (s + 23) = 2 ^ s * 2 ^ 23 := pow_add 2 s 23
  rw [ea, eb] at hor
  have hm : 2 ^ s ≤ 128 := by
    calc 2 ^ s ≤ 2 ^ 7 := Nat.pow_le_pow_right (by norm_num) (by omega)
      _ = 128 := by norm_num
  unfold bv
  rw [BitVec.toNat_or, BitVec.toNat_ofNat, BitVec.toNat_ofNat, BitVec.toNat_ofNat, Nat.mod_eq_of_lt (by omega), Nat.mod_eq_of_lt (by omega),
    Nat.mod_eq_of_lt (by omega), ← hor]
  ring

/-- What the search knows with `s` bits to go: the bits found are `k`, and `m` lies below the next multiple of `2^s`. -/
def Found (m : EReal) (s : ℕ) (e : BitVec 32) : Prop :=
  ∃ k : ℕ, e = bv k ∧ 2 ^ s ∣ k ∧ k + 2 ^ s ≤ 256 ∧ pow2 k ≤ m ∧ m < pow2 (k + 2 ^ s)

theorem found_step (m : EReal) (s : ℕ) (hs : s < 8) (e : BitVec 32) (h : Found m (s + 1) e) : Found m s (expStep (F := Ideal) m e (bv (2 ^ s))) := by
  obtain ⟨k, rfl, hd, hk, hlo, hhi⟩ := h
  have hp : 0 < 2 ^ s := by positivity
  have h2 : 2 ^ (s + 1) = 2 ^ s + 2 ^ s := by rw [pow_succ]; ring
  unfold expStep
  rw [bv_or s k hs hd (by omega)]
  show Found m s (Scalar.select (Ideal.cmp .oge m (Ideal.ofBits .f32 (bv (k + 2 ^ s)))) _ _)
  rw [ofBits_bv _ (by omega)]
  have hds : 2 ^ s ∣ k := (pow_dvd_pow 2 (Nat.le_succ s)).trans hd
  by_cases hc : pow2 (k + 2 ^ s) ≤ m
  · rw [show Scalar.select (Ideal.cmp .oge m (pow2 (k + 2 ^ s))) (bv (k + 2 ^ s)) (bv k) = bv (k + 2 ^ s) by
      unfold Scalar.select Ideal.cmp; simp [hc]]
    exact ⟨k + 2 ^ s, rfl, hds.add dvd_rfl, by omega, hc, by rwa [show k + 2 ^ s + 2 ^ s = k + 2 ^ (s + 1) by omega]⟩
  · rw [show Scalar.select (Ideal.cmp .oge m (pow2 (k + 2 ^ s))) (bv (k + 2 ^ s)) (bv k) = bv k by
      unfold Scalar.select Ideal.cmp; simp [hc]]
    exact ⟨k, rfl, hds, by omega, hlo, not_le.mp hc⟩

/-- The search ends at the exponent field of `m`. -/
theorem expField_spec (m : EReal) (h0 : 0 ≤ m) (h1 : m < ⊤) : ∃ k : ℕ, expField (F := Ideal) m = bv k ∧ k < 255 ∧ pow2 k ≤ m ∧ m < pow2 (k + 1) := by
  have b8 : Found m 8 0#32 := ⟨0, rfl, by norm_num, by norm_num, h0, by simpa [pow2] using h1⟩
  have b7 := found_step m 7 (by norm_num) _ b8
  have b6 := found_step m 6 (by norm_num) _ b7
  have b5 := found_step m 5 (by norm_num) _ b6
  have b4 := found_step m 4 (by norm_num) _ b5
  have b3 := found_step m 3 (by norm_num) _ b4
  have b2 := found_step m 2 (by norm_num) _ b3
  have b1 := found_step m 1 (by norm_num) _ b2
  have b0 := found_step m 0 (by norm_num) _ b1
  obtain ⟨k, he, -, hk, hlo, hhi⟩ := b0
  refine ⟨k, he, ?_, hlo, hhi⟩
  by_contra hc
  have : k = 255 := by have : 2 ^ 0 = 1 := pow_zero 2; omega
  subst this
  exact absurd (lt_of_le_of_lt hlo h1) (by simp [pow2])

/-! ## The reference's exponent -/

/-- The exponent the reference computes: the least `e` with `m < 2^e`, and zero below the smallest normal number. -/
def refExp (m : EReal) : EReal :=
  Scalar.select (Ideal.cmp .oge m (Ideal.ofBits .f32 0x00800000#32)) (Ideal.liftRound Int.floor (Ideal.log m * (((Real.log 2)⁻¹ : ℝ) : EReal)) + 1) 0

theorem ofBits_tiny : Ideal.ofBits .f32 0x00800000#32 = pow2 1 := ofBits_bv 1 (by norm_num)
theorem ofBits_one : Ideal.ofBits .f32 0x3F800000#32 = 1 := by
  refine (ofBits_bv 127 (by norm_num)).trans ?_
  rw [pow2_mid 127 (by norm_num) (by norm_num)]; norm_num

theorem floor_log (r : ℝ) (e : ℤ) (hlo : (2 : ℝ) ^ e ≤ r) (hhi : r < (2 : ℝ) ^ (e + 1)) : ⌊Real.log r * (Real.log 2)⁻¹⌋ = e := by
  have hr : 0 < r := lt_of_lt_of_le (by positivity) hlo
  have hl : 0 < Real.log 2 := Real.log_pos (by norm_num)
  rw [Int.floor_eq_iff, ← div_eq_mul_inv, le_div_iff₀ hl, div_lt_iff₀ hl]
  have a := Real.log_le_log (by positivity) hlo
  have b := Real.log_lt_log hr hhi
  rw [Real.log_zpow] at a b
  push_cast at b
  exact ⟨a, b⟩

theorem refExp_zero (m : EReal) (h : m < pow2 1) : refExp m = 0 := by
  unfold refExp
  rw [ofBits_tiny]
  unfold Scalar.select Ideal.cmp
  simp [not_le.mpr h]

theorem refExp_pos (m : EReal) (k : ℕ) (hk0 : 0 < k) (hk : k < 254) (hlo : pow2 k ≤ m) (hhi : m < pow2 (k + 1)) : refExp m = (((k : ℤ) - 126 : ℤ) : ℝ) := by
  have h1 : pow2 1 ≤ m := by
    refine le_trans ?_ hlo
    rw [pow2_mid 1 (by norm_num) (by norm_num), pow2_mid k hk0 (by omega), EReal.coe_le_coe_iff]
    exact zpow_le_zpow_right₀ (by norm_num) (by push_cast; omega)
  rw [pow2_mid k hk0 (by omega)] at hlo
  rw [pow2_mid (k + 1) (by omega) (by omega)] at hhi
  unfold refExp
  rw [ofBits_tiny]
  have es : ∀ a b : EReal, Scalar.select (Ideal.cmp .oge m (pow2 1)) a b = a := fun a b => by unfold Scalar.select Ideal.cmp; simp [h1]
  rw [es]
  induction m with
  | bot => exact absurd hlo (by simp)
  | top => exact absurd hhi (by simp)
  | coe r =>
    rw [EReal.coe_le_coe_iff] at hlo
    rw [EReal.coe_lt_coe_iff] at hhi
    have hr : 0 < r := lt_of_lt_of_le (by positivity) hlo
    have hf := floor_log r ((k : ℤ) - 127) hlo (by rw [show (k : ℤ) - 127 + 1 = ((k + 1 : ℕ) : ℤ) - 127 by push_cast; ring]; exact hhi)
    rw [show Ideal.log (r : EReal) = (Real.log r : EReal) from if_neg (not_le.mpr hr), ← EReal.coe_mul]
    show (((⌊Real.log r * (Real.log 2)⁻¹⌋ : ℤ) : ℝ) : EReal) + 1 = _
    rw [hf, ← EReal.coe_one, ← EReal.coe_add]
    refine congrArg _ ?_
    push_cast; ring

theorem exp2_int (e : ℤ) : Ideal.exp2 (((e : ℝ)) : EReal) = (((2 : ℝ) ^ e : ℝ) : EReal) :=
  congrArg Real.toEReal (Real.rpow_intCast 2 e)

/-- The kernel's scale and inverse scale are the reference's, up to a bound that the gradients keep. -/
theorem scale_eq (m : EReal) (h0 : 0 ≤ m) (h1 : m < (((2 : ℝ) ^ (126 : ℤ) : ℝ) : EReal)) :
    scaleOf (F := Ideal) m = Ideal.exp2 (refExp m) ∧ invOf (F := Ideal) m = Ideal.exp2 (0 - refExp m) := by
  obtain ⟨k, he, hk, hlo, hhi⟩ := expField_spec m h0 (h1.trans (EReal.coe_lt_top _))
  by_cases hk0 : k = 0
  · subst hk0
    have hu : unitField (F := Ideal) m = 1#1 := by unfold unitField; rw [he]; rfl
    rw [refExp_zero m hhi]
    unfold scaleOf invOf
    rw [hu]
    have e1 : Ideal.exp2 0 = 1 := by
      rw [← EReal.coe_zero]; show (((2 : ℝ) ^ (0 : ℝ) : ℝ) : EReal) = 1; rw [Real.rpow_zero, EReal.coe_one]
    have ez : (0 : EReal) - 0 = 0 := sub_zero 0
    rw [ez, e1]
    exact ⟨ofBits_one, ofBits_one⟩
  · have hk' : k < 253 := by
      by_contra hc
      have := lt_of_le_of_lt hlo h1
      rw [pow2_mid k (by omega) hk, EReal.coe_lt_coe_iff, zpow_lt_zpow_iff_right₀ (by norm_num)] at this
      omega
    have hu : unitField (F := Ideal) m = 0#1 := by
      unfold unitField; rw [he]
      have n0 : bv k ≠ 0#32 := fun h => by
        have := congrArg BitVec.toNat h
        unfold bv at this; rw [BitVec.toNat_ofNat, Nat.mod_eq_of_lt (by omega)] at this
        simp at this; omega
      have n1 : bv k ≠ 2139095040#32 := fun h => by
        have := congrArg BitVec.toNat h
        unfold bv at this; rw [BitVec.toNat_ofNat, Nat.mod_eq_of_lt (by omega)] at this
        simp at this; omega
      unfold IntOp.ori IntOp.cmpi
      simp only [beq_false_of_ne n0, beq_false_of_ne n1]
      rfl
    rw [refExp_pos m k (by omega) (by omega) hlo hhi]
    unfold scaleOf invOf
    rw [hu, he]
    have es : IntOp.addi (bv k) 8388608#32 = bv (k + 1) := by
      refine BitVec.eq_of_toNat_eq ?_
      show (bv k + 8388608#32).toNat = _
      unfold bv; rw [BitVec.toNat_add, BitVec.toNat_ofNat, BitVec.toNat_ofNat, BitVec.toNat_ofNat]; omega
    have ei : IntOp.subi 2122317824#32 (bv k) = bv (253 - k) := by
      refine BitVec.eq_of_toNat_eq ?_
      show (2122317824#32 - bv k).toNat = _
      unfold bv; rw [BitVec.toNat_sub, BitVec.toNat_ofNat, BitVec.toNat_ofNat, BitVec.toNat_ofNat]; omega
    constructor
    · show Ideal.ofBits .f32 (IntOp.addi (bv k) 8388608#32) = _
      rw [es, ofBits_bv _ (by omega), pow2_mid _ (by omega) (by omega), exp2_int]
      refine congrArg _ (congrArg _ ?_)
      push_cast; ring
    · show Ideal.ofBits .f32 (IntOp.subi 2122317824#32 (bv k)) = _
      rw [ei, ofBits_bv _ (by omega), pow2_mid _ (by omega) (by omega), ← EReal.coe_zero, ← EReal.coe_sub, ← Int.cast_zero, ← Int.cast_sub, exp2_int]
      refine congrArg _ (congrArg _ ?_)
      omega

end Cert.KernelIdeal.Hand

end
-- ==== Proof.Goal.lean ====
module

public import proofs.«01_k».proof.Proof.Gelu
public import proofs.«01_k».proof.Proof.Exponent

/-! The five results as functions of the three arguments, over the extended reals, and the bound on the gradient that a finite
incoming gradient gives.  Both programs are shown to compute these functions. -/

@[expose] public section

noncomputable section

namespace Cert.Goal

open Idealize.ShloMosaic Cert.Gelu Cert.KernelIdeal.Hand

/-! ### The constants -/

/-- The constant `alpha` of the kernel. -/
def A : ℝ := 823008727881433516189252065823047014187 / 2500000000000000000000000000000000000000
/-- The square root of 2/π. -/
def K : ℝ := Real.sqrt (2 * Real.pi⁻¹)
/-- The coefficient of the cubic term in the tanh form of GELU. -/
def C : ℝ := A ^ 3 * K⁻¹

theorem A_pos : 0 < A := by unfold A; norm_num
theorem K_pos : 0 < K := Real.sqrt_pos.2 (mul_pos two_pos (inv_pos.2 Real.pi_pos))
theorem C_pos : 0 < C := mul_pos (pow_pos A_pos 3) (inv_pos.2 K_pos)
theorem C_eq : ((557459502129689443565146502186433914028119353296949256162900134818484088593478810733247388202474820468608523060237203 / 15625000000000000000000000000000000000000000000000000000000000000000000000000000000000000000000000000000000000000000000) * (Real.sqrt (2 * Real.pi⁻¹))⁻¹ : ℝ) = C := by
  unfold C K A
  refine congrArg (· * _) ?_
  norm_num

theorem ofBits_half : Ideal.ofBits .f32 0x3F000000#32 = ((1 / 2 : ℝ) : EReal) := by
  simp [Ideal.ofBits, Ideal.ieee, -EReal.coe_mul]; norm_num
theorem ofBits_three_halves : Ideal.ofBits .f32 0x3FC00000#32 = ((3 / 2 : ℝ) : EReal) := by
  simp [Ideal.ofBits, Ideal.ieee, -EReal.coe_mul]; norm_num
/-- The quotient by the greatest code, in the f32 grid. -/
theorem ofBits_step : Ideal.ofBits .f32 0x37924925#32 = ((9586981 / 2 ^ 39 : ℝ) : EReal) := by
  simp [Ideal.ofBits, Ideal.ieee, -EReal.coe_mul]; norm_num
/-- The greatest finite bf16 number. -/
theorem ofBits_max : Ideal.ofBits .bf16 0x7F7F#16 = ((255 * 2 ^ 120 : ℝ) : EReal) := by
  simp [Ideal.ofBits, Ideal.ieee, -EReal.coe_mul]
theorem ofBits_bot : Ideal.ofBits .f32 0xFF800000#32 = ⊥ := by
  simp [Ideal.ofBits, Ideal.ieee]

/-! ### The results -/

variable (a0 a1 : (⟨2, ![65536, 2816]⟩ : Shape).Idx → EReal) (a2 : (⟨2, ![65536, 22]⟩ : Shape).Idx → EReal)

/-- The group of 128 that a column lies in. -/
def cg (n : Fin 2816) : Fin 22 := ⟨n.val / 128, by omega⟩
/-- The group of 128 that a row lies in. -/
def rg (R : Fin 65536) : Fin 512 := ⟨R.val / 128, by omega⟩
/-- Column `l` of the group `j`. -/
def col (j : Fin 22) (l : Fin 128) : Fin 2816 := ⟨128 * j.val + l.val, by omega⟩
/-- Row `r` of the group `T`. -/
def row (T : Fin 512) (r : Fin 128) : Fin 65536 := ⟨128 * T.val + r.val, by omega⟩

/-- The gradient of GELU at the scaled input, times the incoming gradient. -/
def grad (R : Fin 65536) (n : Fin 2816) : EReal :=
  a0 (ix2 R n) * refFactor K C (a1 (ix2 R n) * a2 (ix2 R (cg n)))

/-- The greatest magnitude of 128 numbers. -/
def mag (f : Fin 128 → EReal) : EReal := Finset.univ.fold max ⊥ fun k => max (f k) (-(f k))
/-- The same as a fraction of the greatest code. -/
def normed (f : Fin 128 → EReal) : EReal := mag f * Ideal.ofBits .f32 0x37924925#32

variable (v : Fin 65536 → Fin 2816 → EReal)

/-- The magnitude of a group along a row. -/
def rowN (R : Fin 65536) (j : Fin 22) : EReal := normed fun l => v R (col j l)
/-- The magnitude of a group along a column. -/
def colN (T : Fin 512) (n : Fin 2816) : EReal := normed fun r => v (row T r) n

/-- A number as a code, given the reciprocal of its group's scale. -/
def code (x i : EReal) : EReal := min (Ideal.ofBits .f32 0x47600000#32) (max (Ideal.ofBits .f32 0xC7600000#32) (x * i))

def dbias : (⟨2, ![1, 2816]⟩ : Shape).Idx → EReal := fun y => ∑ R, v R (y 1)
def rowCodes : (⟨2, ![65536, 2816]⟩ : Shape).Idx → EReal := fun y =>
  code (v (y 0) (y 1)) (Ideal.exp2 (0 - refExp (rowN v (y 0) (cg (y 1)))))
def rowScales : (⟨2, ![65536, 22]⟩ : Shape).Idx → EReal := fun y => Ideal.exp2 (refExp (rowN v (y 0) (y 1)))
def colCodes : (⟨2, ![2816, 65536]⟩ : Shape).Idx → EReal := fun y =>
  code (v (y 1) (y 0)) (Ideal.exp2 (0 - refExp (colN v (rg (y 1)) (y 0))))
def colScales : (⟨2, ![2816, 512]⟩ : Shape).Idx → EReal := fun y => Ideal.exp2 (refExp (colN v (y 1) (y 0)))

/-! ### The bound -/

/-- Every number is finite and at most twice the greatest bf16 number. -/
def Bounded : Prop := ∀ R n, ∃ r : ℝ, v R n = (r : EReal) ∧ |r| ≤ 510 * 2 ^ 120

theorem real_of_le (x : EReal) (b : ℝ) (h : max x (-x) ≤ (b : EReal)) : ∃ r : ℝ, x = (r : EReal) ∧ |r| ≤ b := by
  obtain ⟨h0, h1⟩ := max_le_iff.1 h
  induction x using EReal.rec with
  | bot => exact absurd h1 (by rw [EReal.neg_bot]; exact not_le.2 (EReal.coe_lt_top b))
  | top => exact absurd h0 (not_le.2 (EReal.coe_lt_top b))
  | coe r =>
    rw [← EReal.coe_neg, EReal.coe_le_coe_iff] at h1
    rw [EReal.coe_le_coe_iff] at h0
    exact ⟨r, rfl, abs_le'.2 ⟨h0, h1⟩⟩

theorem grad_bounded (h : ∀ y, max (a0 y) (-(a0 y)) ≤ Ideal.ofBits .bf16 0x7F7F#16) : Bounded (grad a0 a1 a2) := by
  intro R n
  obtain ⟨g, hg, hgb⟩ := real_of_le _ _ (le_of_le_of_eq (h (ix2 R n)) ofBits_max)
  obtain ⟨f, hf, hfb⟩ := factor_bound K_pos C_pos (a1 (ix2 R n) * a2 (ix2 R (cg n)))
  refine ⟨g * f, ?_, ?_⟩
  · unfold grad; rw [hg, hf, EReal.coe_mul]
  · rw [abs_mul]
    calc |g| * |f| ≤ (255 * 2 ^ 120) * 2 := mul_le_mul hgb hfb (abs_nonneg _) (by norm_num)
      _ = 510 * 2 ^ 120 := by norm_num

/-- So the magnitude of a group lies where the kernel's bit search is exact. -/
theorem normed_range (f : Fin 128 → EReal) (h : ∀ k, ∃ r : ℝ, f k = (r : EReal) ∧ |r| ≤ 510 * 2 ^ 120) :
    0 ≤ normed f ∧ normed f < (((2 : ℝ) ^ (126 : ℤ) : ℝ) : EReal) := by
  have hx (k : Fin 128) : ∃ r : ℝ, max (f k) (-(f k)) = ((|r| : ℝ) : EReal) ∧ |r| ≤ 510 * 2 ^ 120 := by
    obtain ⟨r, hr, hb⟩ := h k
    refine ⟨r, ?_, hb⟩
    rw [hr, ← EReal.coe_neg, abs_eq_max_neg]
    exact (EReal.coe_strictMono.monotone.map_max).symm
  have lo : (0 : EReal) ≤ mag f := by
    refine (Finset.le_fold_max _).2 (.inr ⟨0, Finset.mem_univ _, ?_⟩)
    obtain ⟨r, hr, -⟩ := hx 0
    rw [hr]
    exact EReal.coe_nonneg.2 (abs_nonneg r)
  have hi : mag f ≤ ((510 * 2 ^ 120 : ℝ) : EReal) := by
    refine (Finset.fold_max_le _).2 ⟨bot_le, fun k _ => ?_⟩
    obtain ⟨r, hr, hb⟩ := hx k
    rw [hr]
    exact EReal.coe_le_coe_iff.2 hb
  obtain ⟨m, hm, hmb⟩ : ∃ m : ℝ, mag f = (m : EReal) ∧ 0 ≤ m ∧ m ≤ 510 * 2 ^ 120 := by
    generalize mag f = x at lo hi
    induction x using EReal.rec with
    | bot => exact absurd lo (by simp)
    | top => exact absurd hi (not_le.2 (EReal.coe_lt_top _))
    | coe m => exact ⟨m, rfl, EReal.coe_nonneg.1 lo, EReal.coe_le_coe_iff.1 hi⟩
  unfold normed
  rw [hm, ofBits_step, ← EReal.coe_mul]
  refine ⟨EReal.coe_nonneg.2 (mul_nonneg hmb.1 (by norm_num)), EReal.coe_lt_coe_iff.2 ?_⟩
  calc m * (9586981 / 2 ^ 39) ≤ (510 * 2 ^ 120) * (9586981 / 2 ^ 39) := mul_le_mul_of_nonneg_right hmb.2 (by norm_num)
    _ < (2 : ℝ) ^ (126 : ℤ) := by norm_num

end Cert.Goal

end
-- ==== Proof.KernelTile.lean ====
module

public import proofs.«01_k».proof.Proof.Goal
public import proofs.«01_k».proof.Proof.Obligation
public import Idealize.ShloMosaic.Lib.Pointwise

/-! A tile of the kernel over the extended reals: its numbers, and the maxima and sums taken of it. -/

@[expose] public section

set_option maxRecDepth 16384

noncomputable section

namespace Cert.KernelRead

open Idealize.ShloMosaic Cert.KernelIdeal Cert.KernelIdeal.Gen Cert.Goal Cert.Gelu

theorem alpha_eq : (Named.named κ "alpha" 0x3EA88D5C#32 : Ideal .f32) = ((A : ℝ) : EReal) :=
  IdealRules.named_const.ideal_named_scalar _ _ _ _ rfl
theorem poly_a_eq : (Named.named κ "poly_a" 0x401B1D9B#32 : Ideal .f32) = ((K * A⁻¹ : ℝ) : EReal) :=
  IdealRules.named_const.ideal_named_scalar _ _ _ _ rfl
theorem poly_a_third_eq : (Named.named κ "poly_a_third" 0x3F4ED224#32 : Ideal .f32) = ((1 / 3 * (K * A⁻¹) : ℝ) : EReal) :=
  IdealRules.named_const.ideal_named_scalar _ _ _ _ rfl
theorem third_eq : (Named.named κ "third" 0x3EAAAAAB#32 : Ideal .f32) = ((1 / 3 : ℝ) : EReal) :=
  IdealRules.named_const.ideal_named_scalar _ _ _ _ rfl

theorem pay21_at (s : FVec Ideal S128x1 .f32) (x : FVec Ideal S128x128 .fp8e4m3) (g : FVec Ideal S128x128 .bf16) (r l : Fin 128) :
    k0_pay21 (F := Ideal) s x g (ix2 r l) = g (ix2 r l) * refFactor K C (x (ix2 r l) * s (ix2 r 0)) := by
  have e : k0_pay21 (F := Ideal) s x g (ix2 r l)
      = g (ix2 r l) * ((3 / 2 : ℝ) : EReal) * kernFactor A K (x (ix2 r l) * (s (ix2 r 0) * (A : EReal))) := by
    pointwise [k0_pay21, alpha_eq, poly_a_eq, poly_a_third_eq, third_eq]
    rw [ofBits_three_halves]
    rfl
  rw [e, mul_assoc, ← mul_assoc (x (ix2 r l)), factor_eq A_pos K_pos]
  rfl

theorem tile_at (x1 : Vec Ideal S128x2816 .bf16) (x2 : Vec Ideal S128x2816 .fp8e4m3) (x3 : Vec Ideal S128x22 .f32) (j : Fin 22) (r l : Fin 128) :
    Hand.tile x1 x2 x3 j (ix2 r l) = x1 (ix2 r (col j l)) * refFactor K C (x2 (ix2 r (col j l)) * x3 (ix2 r j)) := by
  unfold Hand.tile
  refine (pay21_at _ _ _ r l).trans ?_
  have e1 : (Rect.unit (s := S128x2816) ![0, 128 * j.val] S128x128.size (Hand.inbX j)).emb (ix2 r l : S128x128.Idx) = (ix2 r (col j l) : S128x2816.Idx) :=
    Hand.ix2_ext (by show 0 + 1 * r.val = r.val; omega) (by show 128 * j.val + 1 * l.val = 128 * j.val + l.val; omega)
  have e3 : (Rect.unit (s := S128x22) ![0, j.val] S128x1.size (Hand.inbS j)).emb (ix2 r 0 : S128x1.Idx) = (ix2 r j : S128x22.Idx) :=
    Hand.ix2_ext (by show 0 + 1 * r.val = r.val; omega) (by show j.val + 1 * 0 = j.val; omega)
  exact congrArg₂ (fun a b : EReal => a * refFactor K C b) (congrArg x1 e1) (congrArg₂ (fun a b : EReal => a * b) (congrArg x2 e1) (congrArg x3 e3))

theorem absf_at {s : Shape} (v : FVec Ideal s .f32) (i : s.Idx) : absf v i = max (v i) (-(v i)) := rfl

theorem fold_rows (hφ : FKind.Formats FTy.f32) (hacc : 0xFF800000#32 = FKind.maximumf.neutral .f32 hφ) (w : FVec Ideal S128x128 .f32) (r : Fin 128) :
    multiReduction .maximumf [1] S128 w 0xFF800000#32 reduces_S128x128_S128 hφ hacc (ix1 r) = Finset.univ.fold max ⊥ fun l : Fin 128 => w (ix2 r l) := by
  rw [multiReduction_maximumf_eq_fold, Shape.Reduces.fold_fiber_r2_a1]
  exact congrArg (fun b => Finset.fold max b (fun l : Fin 128 => w (ix2 r l)) Finset.univ) ofBits_bot

theorem fold_cols (hφ : FKind.Formats FTy.f32) (hacc : 0xFF800000#32 = FKind.maximumf.neutral .f32 hφ) (w : FVec Ideal S128x128 .f32) (l : Fin 128) :
    multiReduction .maximumf [0] S128 w 0xFF800000#32 reduces_S128x128_S128_2 hφ hacc (ix1 l) = Finset.univ.fold max ⊥ fun r : Fin 128 => w (ix2 r l) := by
  rw [multiReduction_maximumf_eq_fold, Shape.Reduces.fold_fiber_r2_a0]
  exact congrArg (fun b => Finset.fold max b (fun r : Fin 128 => w (ix2 r l)) Finset.univ) ofBits_bot

theorem rowMax_at (v : FVec Ideal S128x128 .f32) (r : Fin 128) : Hand.rowMax v (ix1 r) = mag fun l => v (ix2 r l) := by
  unfold Hand.rowMax mag
  exact (fold_rows _ _ _ r).trans (Finset.fold_congr fun l _ => absf_at v _)

theorem colMax_at (v : FVec Ideal S128x128 .f32) (l : Fin 128) : Hand.colMax v (ix1 l) = mag fun r => v (ix2 r l) := by
  unfold Hand.colMax mag
  exact (fold_cols _ _ _ l).trans (Finset.fold_congr fun r _ => absf_at v _)

theorem foldRows_at (v : FVec Ideal S128x128 .f32) (s : Fin 8) (l : Fin 128) :
    Hand.foldRows v (ix2 s l) = ∑ p : Fin 16, v (ix2 ⟨8 * p.val + s.val, by omega⟩ l) := by
  unfold Hand.foldRows
  pointwise
  refine Finset.sum_congr rfl fun p _ => congrArg v (Hand.ix2_ext ?_ rfl)
  show p.val * 8 + s.val = 8 * p.val + s.val
  omega

theorem normMax_at (a : EReal) : Hand.normMax (F := Ideal) a = a * Ideal.ofBits .f32 0x37924925#32 := rfl

end Cert.KernelRead

end
-- ==== Proof.KernelBlocks.lean ====
module

public import proofs.«01_k».proof.Proof.KernelTile
public import Idealize.ShloMosaic.Lib.Pipeline.ValueKit

/-! The blocks a point reads, as parts of the arguments, and the blocks it writes, as parts of the results. -/

@[expose] public section

set_option maxRecDepth 16384

noncomputable section

namespace Cert.KernelRead

open Idealize.ShloMosaic Idealize.ShloMosaic.TcCoe Cert.KernelIdeal Cert.KernelIdeal.Gen Cert.Goal Cert.Gelu

variable (m : (ℓ : Loc nD τ sig) → Buf (Elt Ideal) ℓ) (c : Dev nD)

/-- The three arguments. -/
def b0 : S65536x2816.Idx → EReal := m ((c : Thread nD τ).loc main_arg0)
def b1 : S65536x2816.Idx → EReal := m ((c : Thread nD τ).loc main_arg1)
def b2 : S65536x22.Idx → EReal := m ((c : Thread nD τ).loc main_arg2)

/-- The gradient of the arguments. -/
def gr : Fin 65536 → Fin 2816 → EReal := grad (b0 m c) (b1 m c) (b2 m c)

/-- The point as a group of rows. -/
def tk (t : Fin cfg0.N) : Fin 512 := ⟨t.val, lt_of_lt_of_eq t.isLt N_0⟩

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem X1_at (t : Fin cfg0.N) (r : Fin 128) (n : Fin 2816) : Hand.X1 m c t (ix2 r n) = b0 m c (ix2 (row (tk t) r) n) := by
  obtain ⟨h0, h1⟩ := idx_0 t
  show V m c (Pipeline.arrRef spec0 0) (((cfg0.win 0).blk t).view.emb (ix2 r n : S128x2816.Idx)) = _
  refine (congrFun (V_main_arg0 m c) _).trans (congrArg (b0 m c) (Hand.ix2_ext ?_ ?_))
  · show win0_0.index t (0 : Fin 2) * 128 + 1 * r.val = 128 * t.val + r.val
    omega
  · show win0_0.index t (1 : Fin 2) * 2816 + 1 * n.val = n.val
    omega

theorem X2_at (t : Fin cfg0.N) (r : Fin 128) (n : Fin 2816) : Hand.X2 m c t (ix2 r n) = b1 m c (ix2 (row (tk t) r) n) := by
  obtain ⟨h0, h1⟩ := idx_1 t
  show V m c (Pipeline.arrRef spec0 1) (((cfg0.win 1).blk t).view.emb (ix2 r n : S128x2816.Idx)) = _
  refine (congrFun (V_main_arg1 m c) _).trans (congrArg (b1 m c) (Hand.ix2_ext ?_ ?_))
  · show win0_1.index t (0 : Fin 2) * 128 + 1 * r.val = 128 * t.val + r.val
    omega
  · show win0_1.index t (1 : Fin 2) * 2816 + 1 * n.val = n.val
    omega

theorem X3_at (t : Fin cfg0.N) (r : Fin 128) (j : Fin 22) : Hand.X3 m c t (ix2 r j) = b2 m c (ix2 (row (tk t) r) j) := by
  obtain ⟨h0, h1⟩ := idx_2 t
  show V m c (Pipeline.arrRef spec0 2) (((cfg0.win 2).blk t).view.emb (ix2 r j : S128x22.Idx)) = _
  refine (congrFun (V_main_arg2 m c) _).trans (congrArg (b2 m c) (Hand.ix2_ext ?_ ?_))
  · show win0_2.index t (0 : Fin 2) * 128 + 1 * r.val = 128 * t.val + r.val
    omega
  · show win0_2.index t (1 : Fin 2) * 22 + 1 * j.val = j.val
    omega

theorem cg_col (j : Fin 22) (l : Fin 128) : cg (col j l) = j := by
  apply Fin.ext; show (128 * j.val + l.val) / 128 = j.val; omega
theorem rg_row (T : Fin 512) (r : Fin 128) : rg (row T r) = T := by
  apply Fin.ext; show (128 * T.val + r.val) / 128 = T.val; omega

/-- The tile of the point: part of the gradient. -/
theorem tile_gr (t : Fin cfg0.N) (j : Fin 22) (r l : Fin 128) :
    Hand.tile (Hand.X1 m c t) (Hand.X2 m c t) (Hand.X3 m c t) j (ix2 r l) = gr m c (row (tk t) r) (col j l) := by
  rw [tile_at, X1_at, X2_at, X3_at]
  unfold gr grad
  rw [cg_col]

theorem rowNorm_gr (t : Fin cfg0.N) (j : Fin 22) (r : Fin 128) :
    Hand.rowNorm (Hand.X1 m c t) (Hand.X2 m c t) (Hand.X3 m c t) r j = rowN (gr m c) (row (tk t) r) j := by
  unfold Hand.rowNorm
  rw [normMax_at, rowMax_at]
  simp only [tile_gr]
  rfl

theorem colNorm_gr (t : Fin cfg0.N) (j : Fin 22) (l : Fin 128) :
    Hand.colNorm (Hand.X1 m c t) (Hand.X2 m c t) (Hand.X3 m c t) j l = colN (gr m c) (tk t) (col j l) := by
  unfold Hand.colNorm
  rw [normMax_at, colMax_at]
  simp only [tile_gr]
  rfl

/-! ### The blocks written -/

theorem codeOf_at (x i : EReal) : Hand.codeOf (F := Ideal) x i = code x i := rfl

section Bounded
variable (hb : Bounded (gr m c))
include hb

theorem row_scale (R : Fin 65536) (j : Fin 22) :
    Hand.scaleOf (F := Ideal) (rowN (gr m c) R j) = Ideal.exp2 (Hand.refExp (rowN (gr m c) R j)) ∧ Hand.invOf (F := Ideal) (rowN (gr m c) R j) = Ideal.exp2 (0 - Hand.refExp (rowN (gr m c) R j)) := by
  obtain ⟨h0, h1⟩ := normed_range _ fun l => hb R (col j l)
  exact Hand.scale_eq _ h0 h1

theorem col_scale (T : Fin 512) (n : Fin 2816) :
    Hand.scaleOf (F := Ideal) (colN (gr m c) T n) = Ideal.exp2 (Hand.refExp (colN (gr m c) T n)) ∧ Hand.invOf (F := Ideal) (colN (gr m c) T n) = Ideal.exp2 (0 - Hand.refExp (colN (gr m c) T n)) := by
  obtain ⟨h0, h1⟩ := normed_range _ fun r => hb (row T r) n
  exact Hand.scale_eq _ h0 h1

theorem gQ_gr (t : Fin cfg0.N) (r : Fin 128) (n : Fin 2816) (y : S128x2816.Idx) (h0 : (y 0).val = r.val) (h1 : (y 1).val = n.val) :
    Hand.gQ (Hand.X1 m c t) (Hand.X2 m c t) (Hand.X3 m c t) y = rowCodes (gr m c) (ix2 (row (tk t) r) n) := by
  have hn : col (cg n) ⟨n.val % 128, Nat.mod_lt _ (by decide)⟩ = n := by
    apply Fin.ext; show 128 * (n.val / 128) + n.val % 128 = n.val; omega
  rw [Hand.gQ_at (cg n) r ⟨n.val % 128, Nat.mod_lt _ (by decide)⟩ y h0 (by show (y 1).val = 128 * (n.val / 128) + 1 * (n.val % 128); omega),
    tile_gr, rowNorm_gr, (row_scale m c hb _ _).2, codeOf_at, hn]
  rfl

theorem gS_gr (t : Fin cfg0.N) (r : Fin 128) (j : Fin 22) :
    Hand.gS (Hand.X1 m c t) (Hand.X2 m c t) (Hand.X3 m c t) (ix2 r j) = rowScales (gr m c) (ix2 (row (tk t) r) j) := by
  show Hand.scaleOf (F := Ideal) (Hand.rowNorm (Hand.X1 m c t) (Hand.X2 m c t) (Hand.X3 m c t) r j) = _
  rw [rowNorm_gr, (row_scale m c hb _ _).1]
  rfl

theorem gC_gr (t : Fin cfg0.N) (r : Fin 128) (n : Fin 2816) (y : S2816x128.Idx) (h0 : (y 0).val = n.val) (h1 : (y 1).val = r.val) :
    Hand.gC (Hand.X1 m c t) (Hand.X2 m c t) (Hand.X3 m c t) y = colCodes (gr m c) (ix2 n (row (tk t) r)) := by
  have hn : col (cg n) ⟨n.val % 128, Nat.mod_lt _ (by decide)⟩ = n := by
    apply Fin.ext; show 128 * (n.val / 128) + n.val % 128 = n.val; omega
  rw [Hand.gC_at (cg n) r ⟨n.val % 128, Nat.mod_lt _ (by decide)⟩ y h1 (by show (y 0).val = 128 * (n.val / 128) + 1 * (n.val % 128); omega),
    tile_gr, colNorm_gr, (col_scale m c hb _ _).2, codeOf_at, hn]
  show _ = code (gr m c (row (tk t) r) n) (Ideal.exp2 (0 - Hand.refExp (colN (gr m c) (rg (row (tk t) r)) n)))
  rw [rg_row]

theorem gK_gr (T : ℕ) (hT : T < 512) (n : Fin 2816) (r : Fin 128) (y : S2816x128.Idx) (h0 : (y 0).val = n.val) (h1 : (y 1).val = r.val) :
    Hand.gK (Hand.fullR m c T) y = colScales (gr m c) (ix2 n ⟨128 * (T / 128) + r.val, by omega⟩) := by
  have hn : col (cg n) ⟨n.val % 128, Nat.mod_lt _ (by decide)⟩ = n := by
    apply Fin.ext; show 128 * (n.val / 128) + n.val % 128 = n.val; omega
  rw [Hand.gK_at _ (cg n) r ⟨n.val % 128, Nat.mod_lt _ (by decide)⟩ y h1 (by show (y 0).val = 128 * (n.val / 128) + 1 * (n.val % 128); omega)]
  show Hand.scaleOf (F := Ideal) (Hand.colNorm (Hand.X1 m c (Hand.pt (128 * (T / 128) + r.val))) (Hand.X2 m c (Hand.pt (128 * (T / 128) + r.val))) (Hand.X3 m c (Hand.pt (128 * (T / 128) + r.val))) (cg n) ⟨n.val % 128, _⟩) = _
  rw [colNorm_gr, (col_scale m c hb _ _).1, hn]
  have e : tk (Hand.pt (128 * (T / 128) + r.val)) = ⟨128 * (T / 128) + r.val, by omega⟩ :=
    Fin.ext (by show (128 * (T / 128) + r.val) % 512 = 128 * (T / 128) + r.val; omega)
  rw [e]
  rfl

end Bounded

/-! ### The sums -/

theorem dAt_gr (s : Fin 8) (n : Fin 2816) (N : ℕ) (hN : N ≤ 512) :
    Hand.dAt m c N (ix2 s n) = ∑ T : Fin N, ∑ p : Fin 16, gr m c ⟨128 * T.val + (8 * p.val + s.val), by omega⟩ n := by
  induction N with
  | zero =>
    have h0 : (FloatOps.ofBits .f32 0x00000000#32 : Ideal .f32) = 0 := Ideal.ofBits_zero .f32
    simp only [Finset.univ_eq_empty, Finset.sum_empty]
    refine Eq.trans ?_ h0
    show k0_pay20 (F := Ideal) (ix2 s n) = _
    unfold k0_pay20
    rw [shapeCast_id]
    rfl
  | succ N ih =>
    have hn : col (cg n) ⟨n.val % 128, Nat.mod_lt _ (by decide)⟩ = n := by
      apply Fin.ext; show 128 * (n.val / 128) + n.val % 128 = n.val; omega
    rw [Fin.sum_univ_castSucc]
    show Hand.gD (Hand.X1 m c (Hand.pt N)) (Hand.X2 m c (Hand.pt N)) (Hand.X3 m c (Hand.pt N)) (Hand.dAt m c N) (ix2 s n) = _
    rw [Hand.gD_at _ (cg n) s ⟨n.val % 128, Nat.mod_lt _ (by decide)⟩ _ rfl (by show n.val = 128 * (n.val / 128) + 1 * (n.val % 128); omega), foldRows_at, ih (by omega)]
    simp only [tile_gr, hn]
    refine congrArg₂ (fun a b : EReal => a + b) rfl (Finset.sum_congr rfl fun p _ => congrArg (fun R => gr m c R n) (Fin.ext ?_))
    show 128 * (N % 512) + (8 * p.val + s.val) = 128 * N + (8 * p.val + s.val)
    omega

end Cert.KernelRead

end
-- ==== Proof.KernelValue.lean ====
module

public import proofs.«01_k».proof.Proof.KernelBlocks
public import Idealize.ShloMosaic.Lib.Pipeline.Covers

/-! The five arrays the kernel leaves are the five functions of `Goal`, at the gradient of its arguments. -/

@[expose] public section

set_option maxRecDepth 16384

noncomputable section

namespace Cert.KernelRead

open Idealize.ShloMosaic Idealize.ShloMosaic.TcCoe Cert.KernelIdeal Cert.KernelIdeal.Gen Cert.Goal Cert.Gelu
open Idealize.ShloMosaic.Pipeline (Window)

/-! ### The sum of eight running sums -/

theorem sum_rows (v : Fin 65536 → EReal) :
    ∑ s : Fin 8, ∑ T : Fin 512, ∑ p : Fin 16, v ⟨128 * T.val + (8 * p.val + s.val), by omega⟩ = ∑ R, v R := by
  let f : ℕ → EReal := fun R => if h : R < 65536 then v ⟨R, h⟩ else 0
  have hf (R : ℕ) (h : R < 65536) : v ⟨R, h⟩ = f R := by
    show _ = dite _ _ _
    rw [dif_pos h]
  have e1 : ∑ R, v R = ∑ R : Fin (512 * 128), f R.val := Finset.sum_congr rfl fun R _ => hf R.val R.isLt
  rw [e1, ← Fin.sum_univ_univ_mul_add 512 128 f, Finset.sum_comm]
  refine Finset.sum_congr rfl fun T _ => ?_
  have e2 : ∑ k : Fin 128, f (T.val * 128 + k.val) = ∑ k : Fin (16 * 8), f (T.val * 128 + k.val) := rfl
  rw [e2, ← Fin.sum_univ_univ_mul_add 16 8 fun k => f (T.val * 128 + k), Finset.sum_comm]
  refine Finset.sum_congr rfl fun p _ => Finset.sum_congr rfl fun s _ => ?_
  rw [hf]
  exact congrArg f (by omega)

variable (m : (ℓ : Loc nD τ sig) → Buf (Elt Ideal) ℓ) (c : Dev nD)

theorem pay1_at (x : FVec Ideal S8x2816 .f32) (z : Fin 1) (n : Fin 2816) : k0_pay1 (F := Ideal) x (ix2 z n) = ∑ s : Fin 8, x (ix2 s n) := by
  pointwise [k0_pay1]

theorem dbias_gr (y : S1x2816.Idx) : k0_pay1 (Hand.dAt m c 512) y = dbias (gr m c) y := by
  idx_vars y
  rw [pay1_at]
  refine Eq.trans ?_ (sum_rows fun R => gr m c R y1)
  exact Finset.sum_congr rfl fun s _ => dAt_gr m c s y1 512 (le_refl _)

/-! ### The blocks cover the arrays -/

theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)
theorem idx_7 : ∀ t : Fin cfg0.N, win0_7.index t (0 : Fin 2) = 0 ∧ win0_7.index t (1 : Fin 2) = t.val / 128 :=
  (by decide +kernel : ∀ t : Fin grid0.N, win0_7.index t (0 : Fin 2) = 0 ∧ win0_7.index t (1 : Fin 2) = t.val / 128)

theorem covers4 : win0_4.Covers :=
  win0_4.covers_of_index_surj rfl (by decide) fun β => by
    have h0 : (β (0 : Fin 2)).val < 512 := (β (0 : Fin 2)).isLt
    have h1 : (β (1 : Fin 2)).val < 1 := (β (1 : Fin 2)).isLt
    let t : Fin cfg0.N := ⟨(β (0 : Fin 2)).val, lt_of_lt_of_eq h0 N_0.symm⟩
    have ht : t.val = (β (0 : Fin 2)).val := rfl
    have hi := idx_4 t
    exact ⟨t, Fin.forall_fin_two.mpr ⟨by omega, by omega⟩⟩
theorem covers5 : win0_5.Covers :=
  win0_5.covers_of_index_surj rfl (by decide) fun β => by
    have h0 : (β (0 : Fin 2)).val < 512 := (β (0 : Fin 2)).isLt
    have h1 : (β (1 : Fin 2)).val < 1 := (β (1 : Fin 2)).isLt
    let t : Fin cfg0.N := ⟨(β (0 : Fin 2)).val, lt_of_lt_of_eq h0 N_0.symm⟩
    have ht : t.val = (β (0 : Fin 2)).val := rfl
    have hi := idx_5 t
    exact ⟨t, Fin.forall_fin_two.mpr ⟨by omega, by omega⟩⟩
theorem covers6 : win0_6.Covers :=
  win0_6.covers_of_index_surj rfl (by decide) fun β => by
    have h0 : (β (0 : Fin 2)).val < 1 := (β (0 : Fin 2)).isLt
    have h1 : (β (1 : Fin 2)).val < 512 := (β (1 : Fin 2)).isLt
    let t : Fin cfg0.N := ⟨(β (1 : Fin 2)).val, lt_of_lt_of_eq h1 N_0.symm⟩
    have ht : t.val = (β (1 : Fin 2)).val := rfl
    have hi := idx_6 t
    exact ⟨t, Fin.forall_fin_two.mpr ⟨by omega, by omega⟩⟩
theorem covers7 : win0_7.Covers :=
  win0_7.covers_of_index_surj rfl (by decide) fun β => by
    have h0 : (β (0 : Fin 2)).val < 1 := (β (0 : Fin 2)).isLt
    have h1 : (β (1 : Fin 2)).val < 4 := (β (1 : Fin 2)).isLt
    let t : Fin cfg0.N := ⟨128 * (β (1 : Fin 2)).val, lt_of_lt_of_eq (by omega) N_0.symm⟩
    have ht : t.val = 128 * (β (1 : Fin 2)).val := rfl
    have hi := idx_7 t
    exact ⟨t, Fin.forall_fin_two.mpr ⟨by omega, by omega⟩⟩

/-! ### The arrays -/

theorem final3 : (Hand.dats m 0 c).arrAt 3 cfg0.N = dbias (gr m c) := by
  refine (Hand.dats m 0 c).arrAt_eq_of_after_last 3 (Hand.pt 511) (by decide +kernel) _ fun j => ?_
  rw [Hand.after0_3]
  refine (dbias_gr m c _).trans (congrArg (dbias (gr m c)) ?_)
  exact Hand.ix2_ext rfl rfl

variable (hb : Bounded (gr m c))
include hb

theorem final4 : (Hand.dats m 0 c).arrAt 4 cfg0.N = rowCodes (gr m c) := by
  refine (Hand.dats m 0 c).arrAt_eq_of_covers 4 _ covers4 fun t _ (y : S128x2816.Idx) => ?_
  obtain ⟨h0, h1⟩ := idx_4 t
  rw [Hand.after0_4]
  refine (gQ_gr m c hb t (y 0) (y 1) _ rfl rfl).trans (congrArg (rowCodes (gr m c)) (Hand.ix2_ext ?_ ?_))
  · show 128 * t.val + (y 0).val = win0_4.index t (0 : Fin 2) * 128 + 1 * (y 0).val
    omega
  · show (y 1).val = win0_4.index t (1 : Fin 2) * 2816 + 1 * (y 1).val
    omega

theorem final5 : (Hand.dats m 0 c).arrAt 5 cfg0.N = rowScales (gr m c) := by
  refine (Hand.dats m 0 c).arrAt_eq_of_covers 5 _ covers5 fun t _ (y : S128x22.Idx) => ?_
  obtain ⟨h0, h1⟩ := idx_5 t
  rw [Hand.after0_5]
  refine ((congrArg (Hand.gS (Hand.X1 m c t) (Hand.X2 m c t) (Hand.X3 m c t)) (Hand.ix2_ext (j := ix2 (y 0) (y 1)) rfl rfl)).trans (gS_gr m c hb t (y 0) (y 1))).trans
    (congrArg (rowScales (gr m c)) (Hand.ix2_ext ?_ ?_))
  · show 128 * t.val + (y 0).val = win0_5.index t (0 : Fin 2) * 128 + 1 * (y 0).val
    omega
  · show (y 1).val = win0_5.index t (1 : Fin 2) * 22 + 1 * (y 1).val
    omega

theorem final6 : (Hand.dats m 0 c).arrAt 6 cfg0.N = colCodes (gr m c) := by
  refine (Hand.dats m 0 c).arrAt_eq_of_covers 6 _ covers6 fun t _ (y : S2816x128.Idx) => ?_
  obtain ⟨h0, h1⟩ := idx_6 t
  rw [Hand.after0_6]
  refine (gC_gr m c hb t (y 1) (y 0) _ rfl rfl).trans (congrArg (colCodes (gr m c)) (Hand.ix2_ext ?_ ?_))
  · show (y 0).val = win0_6.index t (0 : Fin 2) * 2816 + 1 * (y 0).val
    omega
  · show 128 * t.val + (y 1).val = win0_6.index t (1 : Fin 2) * 128 + 1 * (y 1).val
    omega

theorem final7 : (Hand.dats m 0 c).arrAt 7 cfg0.N = colScales (gr m c) := by
  refine (Hand.dats m 0 c).arrAt_eq_of_covers 7 _ covers7 fun t _ (y : S2816x128.Idx) => ?_
  obtain ⟨h0, h1⟩ := idx_7 t
  rw [Hand.after0_7]
  refine (gK_gr m c hb t.val (lt_of_lt_of_eq t.isLt N_0) (y 0) (y 1) _ rfl rfl).trans (congrArg (colScales (gr m c)) (Hand.ix2_ext ?_ ?_))
  · show (y 0).val = win0_7.index t (0 : Fin 2) * 2816 + 1 * (y 0).val
    omega
  · show 128 * (t.val / 128) + (y 1).val = win0_7.index t (1 : Fin 2) * 128 + 1 * (y 1).val
    omega

end Cert.KernelRead

end
-- ==== Proof.RefRead.lean ====
module

public import proofs.«01_k».proof.Proof.Goal
public import proofs.«01_k».proof.Proof.Gen.ReferenceIdeal.Value
public import Idealize.ShloMosaic.Lib.Pointwise

/-! The reference program, read at an index: its five results are the functions of `Goal`. -/

@[expose] public section

set_option maxRecDepth 4000

noncomputable section

namespace Cert.RefRead

open Idealize.ShloMosaic Cert.ReferenceIdeal Cert.ReferenceIdeal.Gen Cert.ReferenceIdeal.Value Cert.Goal

theorem gelu_k_eq : (Named.named κ "gelu_k" 0x3F4C422A#32 : Ideal .f32) = ((K : ℝ) : EReal) :=
  IdealRules.named_const.ideal_named_scalar _ _ _ _ rfl
theorem gelu_c_eq : (Named.named κ "gelu_c" 0x3D372713#32 : Ideal .f32) = ((C : ℝ) : EReal) :=
  (IdealRules.named_const.ideal_named_scalar _ _ _ _ rfl).trans (congrArg Real.toEReal C_eq)
theorem gelu_3c_eq : (Named.named κ "gelu_3c" 0x3E095D4F#32 : Ideal .f32) = ((3 * C : ℝ) : EReal) :=
  (IdealRules.named_const.ideal_named_scalar _ _ _ _ rfl).trans (congrArg (fun c : ℝ => Real.toEReal (3 * c)) C_eq)
theorem inv_log_2_eq : (Named.named κ "inv_log_2" 0x3FB8AA3B#32 : Ideal .f32) = (((Real.log 2)⁻¹ : ℝ) : EReal) :=
  IdealRules.named_const.ideal_named_scalar _ _ _ _ rfl

variable (a0 : FVec Ideal S65536x2816 .bf16) (a1 : FVec Ideal S65536x2816 .fp8e4m3) (a2 : FVec Ideal S65536x22 .f32)

theorem grad_at (R : Fin 65536) (n : Fin 2816) : k0_pay14 (F := Ideal) a0 a1 a2 (ix2 R n) = grad a0 a1 a2 R n := by
  pointwise [k0_pay14, k0_pay4, gelu_k_eq, gelu_c_eq, gelu_3c_eq]
  rw [ofBits_half]
  rfl

theorem grad_at' (R : Fin 65536) (n : Fin 2816) : k0_pay4 (F := Ideal) a1 a2 a0 (ix2 R n) = grad a0 a1 a2 R n := by
  pointwise [k0_pay4, gelu_k_eq, gelu_c_eq, gelu_3c_eq]
  rw [ofBits_half]
  rfl

theorem k0_pay14_eq : k0_pay14 (F := Ideal) a0 a1 a2 = fun y => grad a0 a1 a2 (y 0) (y 1) := by
  funext y
  idx_vars y
  exact grad_at a0 a1 a2 _ _

theorem dbias_eq : k0_pay5 (F := Ideal) a1 a2 a0 = dbias (grad a0 a1 a2) := by
  funext y
  idx_vars y
  pointwise [k0_pay5]
  exact Finset.sum_congr rfl fun R _ => grad_at' a0 a1 a2 R _

end Cert.RefRead

end
-- ==== Proof.RefIdx.lean ====
module

public import proofs.«01_k».proof.Proof.Goal
public import proofs.«01_k».proof.Proof.Gen.ReferenceIdeal.Value
public import Idealize.ShloMosaic.Lib.Pointwise

/-! The reshapes of the reference program, read at an index. -/

@[expose] public section

set_option maxRecDepth 4000

noncomputable section

namespace Cert.RefRead

open Idealize.ShloMosaic Cert.ReferenceIdeal Cert.ReferenceIdeal.Gen Cert.ReferenceIdeal.Value Cert.Goal

/-! ### Indices of the reshaped arrays -/

section Cast
variable {α : Type}

theorem cast_rows (x : S65536x2816.Idx → α) (h : S65536x2816.ShapeCasts S65536x22x128) (R : Fin 65536) (j : Fin 22) (l : Fin 128) :
    shapeCast S65536x22x128 x h (ix3 R j l) = x (ix2 R (col j l)) := by
  refine shapeCast_apply x h _ _ ?_
  rw [Shape.rowMajor_val_two, Shape.rowMajor_val_three]
  show R.val * 2816 + (128 * j.val + l.val) = (R.val * 22 + j.val) * 128 + l.val
  omega

theorem uncast_rows (x : S65536x22x128.Idx → α) (h : S65536x22x128.ShapeCasts S65536x2816) (R : Fin 65536) (n : Fin 2816) :
    shapeCast S65536x2816 x h (ix2 R n) = x (ix3 R (cg n) ⟨n.val % 128, Nat.mod_lt _ (by decide)⟩) := by
  refine shapeCast_apply x h _ _ ?_
  rw [Shape.rowMajor_val_two, Shape.rowMajor_val_three]
  show (R.val * 22 + n.val / 128) * 128 + n.val % 128 = R.val * 2816 + n.val
  omega

theorem cast_unit_rows (x : S65536x22.Idx → α) (h : S65536x22.ShapeCasts S65536x22x1) (R : Fin 65536) (j : Fin 22) :
    shapeCast S65536x22x1 x h (ix3 R j (0 : Fin 1)) = x (ix2 R j) := by
  refine shapeCast_apply x h _ _ ?_
  rw [Shape.rowMajor_val_two, Shape.rowMajor_val_three]
  show R.val * 22 + j.val = (R.val * 22 + j.val) * 1 + 0
  omega

theorem spread_rows (x : S65536x22x1.Idx → α) (h : S65536x22x1.Broadcasts S65536x22x128) (R : Fin 65536) (j : Fin 22) (l : Fin 128) :
    broadcastTo S65536x22x128 x h (ix3 R j l) = x (ix3 R j (0 : Fin 1)) := by
  refine broadcastTo_apply x h _ _ fun a => ?_
  match a with
  | ⟨0, _⟩ => rfl
  | ⟨1, _⟩ => rfl
  | ⟨2, _⟩ => rfl

theorem cast_cols (x : S65536x2816.Idx → α) (h : S65536x2816.ShapeCasts S512x128x2816) (T : Fin 512) (r : Fin 128) (n : Fin 2816) :
    shapeCast S512x128x2816 x h (ix3 T r n) = x (ix2 (row T r) n) := by
  refine shapeCast_apply x h _ _ ?_
  rw [Shape.rowMajor_val_two, Shape.rowMajor_val_three]
  show (128 * T.val + r.val) * 2816 + n.val = (T.val * 128 + r.val) * 2816 + n.val
  omega

theorem uncast_cols (x : S512x128x2816.Idx → α) (h : S512x128x2816.ShapeCasts S65536x2816) (R : Fin 65536) (n : Fin 2816) :
    shapeCast S65536x2816 x h (ix2 R n) = x (ix3 (rg R) ⟨R.val % 128, Nat.mod_lt _ (by decide)⟩ n) := by
  refine shapeCast_apply x h _ _ ?_
  rw [Shape.rowMajor_val_two, Shape.rowMajor_val_three]
  show (R.val / 128 * 128 + R.val % 128) * 2816 + n.val = R.val * 2816 + n.val
  omega

theorem cast_unit_cols (x : S512x2816.Idx → α) (h : S512x2816.ShapeCasts S512x1x2816) (T : Fin 512) (n : Fin 2816) :
    shapeCast S512x1x2816 x h (ix3 T (0 : Fin 1) n) = x (ix2 T n) := by
  refine shapeCast_apply x h _ _ ?_
  rw [Shape.rowMajor_val_two, Shape.rowMajor_val_three]
  show T.val * 2816 + n.val = (T.val * 1 + 0) * 2816 + n.val
  omega

theorem spread_cols (x : S512x1x2816.Idx → α) (h : S512x1x2816.Broadcasts S512x128x2816) (T : Fin 512) (r : Fin 128) (n : Fin 2816) :
    broadcastTo S512x128x2816 x h (ix3 T r n) = x (ix3 T (0 : Fin 1) n) := by
  refine broadcastTo_apply x h _ _ fun a => ?_
  match a with
  | ⟨0, _⟩ => rfl
  | ⟨1, _⟩ => rfl
  | ⟨2, _⟩ => rfl

theorem turn {n0 n1 : ℕ} (x : (⟨2, ![n0, n1]⟩ : Shape).Idx → α) (h : (⟨2, ![n0, n1]⟩ : Shape).Transposes [1, 0] ⟨2, ![n1, n0]⟩) (a : Fin n1) (b : Fin n0) :
    transpose ⟨2, ![n1, n0]⟩ [1, 0] x h (ix2 a b) = x (ix2 b a) := by
  refine transpose_apply _ x h _ _ fun c => ?_
  match c with
  | ⟨0, _⟩ => rfl
  | ⟨1, _⟩ => rfl
end Cast

end Cert.RefRead

end
-- ==== Proof.RefMax.lean ====
module

public import proofs.«01_k».proof.Proof.Goal
public import proofs.«01_k».proof.Proof.Gen.ReferenceIdeal.Value
public import Idealize.ShloMosaic.Lib.Pointwise

/-! The maxima of the reference program, as folds along the reduced axis. -/

@[expose] public section

set_option maxRecDepth 4000

noncomputable section

namespace Cert.RefRead

open Idealize.ShloMosaic Cert.ReferenceIdeal Cert.ReferenceIdeal.Gen Cert.ReferenceIdeal.Value Cert.Goal

theorem max_rows (hφ : FKind.Formats FTy.f32) (hacc : 0xFF800000#32 = FKind.maximumf.neutral .f32 hφ) (w : FVec Ideal S65536x22x128 .f32) (R : Fin 65536) (j : Fin 22) :
    multiReduction .maximumf [2] S65536x22 w 0xFF800000#32 reduces_S65536x22x128_S65536x22 hφ hacc (ix2 R j)
      = Finset.univ.fold max ⊥ fun l : Fin 128 => w (ix3 R j l) := by
  rw [multiReduction_maximumf_eq_fold, Shape.Reduces.fold_fiber_r3_a2]
  exact congrArg (fun b => Finset.fold max b (fun l : Fin 128 => w (ix3 R j l)) Finset.univ) ofBits_bot

theorem max_cols (hφ : FKind.Formats FTy.f32) (hacc : 0xFF800000#32 = FKind.maximumf.neutral .f32 hφ) (w : FVec Ideal S512x128x2816 .f32) (T : Fin 512) (n : Fin 2816) :
    multiReduction .maximumf [1] S512x2816 w 0xFF800000#32 reduces_S512x128x2816_S512x2816 hφ hacc (ix2 T n)
      = Finset.univ.fold max ⊥ fun r : Fin 128 => w (ix3 T r n) := by
  rw [multiReduction_maximumf_eq_fold, Shape.Reduces.fold_fiber_r3_a1]
  exact congrArg (fun b => Finset.fold max b (fun r : Fin 128 => w (ix3 T r n)) Finset.univ) ofBits_bot

end Cert.RefRead

end
-- ==== Proof.RefExp.lean ====
module

public import proofs.«01_k».proof.Proof.RefRead
public import proofs.«01_k».proof.Proof.RefIdx
public import proofs.«01_k».proof.Proof.RefMax
public import proofs.«01_k».proof.Proof.Gen.ReferenceIdeal.Value
public import Idealize.ShloMosaic.Lib.Pointwise

/-! The scales and the codes of the reference program are those of `Goal`. -/

@[expose] public section

set_option maxRecDepth 4000

noncomputable section

namespace Cert.RefRead

open Idealize.ShloMosaic Cert.ReferenceIdeal Cert.ReferenceIdeal.Gen Cert.ReferenceIdeal.Value Cert.Goal

/-! ### The scales and the codes -/

variable (g : FVec Ideal S65536x2816 .f32)

/-- The gradient by row and column. -/
def of : Fin 65536 → Fin 2816 → EReal := fun R n => g (ix2 R n)

theorem exp_rfl (m : EReal) : Scalar.select (FloatOps.cmpf (F := Ideal) (φ := .f32) .oge m (FloatOps.ofBits .f32 0x00800000#32))
    (FloatOps.addf (F := Ideal) (φ := .f32) (FloatOps.floor (F := Ideal) (φ := .f32) (FloatOps.mulf (F := Ideal) (φ := .f32) (FloatOps.log (F := Ideal) (φ := .f32) m) (Named.named κ "inv_log_2" 0x3FB8AA3B#32)))
      (FloatOps.ofBits .f32 0x3F800000#32)) (FloatOps.ofBits .f32 0x00000000#32) = KernelIdeal.Hand.refExp m := by
  rw [inv_log_2_eq]
  have h1 : (FloatOps.ofBits .f32 0x3F800000#32 : Ideal .f32) = 1 := KernelIdeal.Hand.ofBits_one
  have h0 : (FloatOps.ofBits .f32 0x00000000#32 : Ideal .f32) = 0 := Ideal.ofBits_zero .f32
  rw [h1, h0]
  rfl

theorem rowMax_at (hφ : FKind.Formats FTy.f32) (hacc : 0xFF800000#32 = FKind.maximumf.neutral .f32 hφ) (R : Fin 65536) (j : Fin 22) :
    multiReduction .maximumf [2] S65536x22 (absf (k0_pay6 (F := Ideal) g)) 0xFF800000#32 reduces_S65536x22x128_S65536x22 hφ hacc (ix2 R j)
      = mag fun l => of g R (col j l) := by
  refine (max_rows hφ hacc _ R j).trans ?_
  unfold mag
  refine Finset.fold_congr fun l _ => ?_
  have e : k0_pay6 (F := Ideal) g (ix3 R j l) = of g R (col j l) := cast_rows g _ R j l
  exact congrArg (fun x : EReal => max x (-x)) e

theorem colMax_at (hφ : FKind.Formats FTy.f32) (hacc : 0xFF800000#32 = FKind.maximumf.neutral .f32 hφ) (T : Fin 512) (n : Fin 2816) :
    multiReduction .maximumf [1] S512x2816 (absf (k0_pay10 (F := Ideal) g)) 0xFF800000#32 reduces_S512x128x2816_S512x2816 hφ hacc (ix2 T n)
      = mag fun r => of g (row T r) n := by
  refine (max_cols hφ hacc _ T n).trans ?_
  unfold mag
  refine Finset.fold_congr fun r _ => ?_
  have e : k0_pay10 (F := Ideal) g (ix3 T r n) = of g (row T r) n := cast_cols g _ T r n
  exact congrArg (fun x : EReal => max x (-x)) e

/-- A vector times a constant, at an index. -/
theorem scaled_at {s : Shape} (w : FVec Ideal s .f32) (c : Ideal .f32) (i : s.Idx) : mulf w (broadcast s c) i = w i * c := rfl

/-- The exponents of a vector of magnitudes. -/
def expVec {s : Shape} (w : FVec Ideal s .f32) : FVec Ideal s .f32 :=
  select (cmpf .oge w (broadcast s (Scalar.ofBits .f32 0x00800000#32)))
    (addf (floor (mulf (log w) (broadcast s (Named.named κ "inv_log_2" 0x3FB8AA3B#32)))) (broadcast s (Scalar.ofBits .f32 0x3F800000#32)))
    (broadcast s (Scalar.ofBits .f32 0x00000000#32))

theorem expVec_at {s : Shape} (w : FVec Ideal s .f32) (i : s.Idx) : expVec w i = KernelIdeal.Hand.refExp (w i) := exp_rfl (w i)

theorem pay7_eq : k0_pay7 (F := Ideal) g = expVec (mulf (multiReduction .maximumf [2] S65536x22 (absf (k0_pay6 g)) 0xFF800000#32 reduces_S65536x22x128_S65536x22 (.inl rfl) rfl)
    (broadcast S65536x22 (Scalar.ofBits .f32 0x37924925#32))) := by
  unfold k0_pay7 expVec
  rfl

theorem rowExp_at (R : Fin 65536) (j : Fin 22) : k0_pay7 (F := Ideal) g (ix2 R j) = KernelIdeal.Hand.refExp (rowN (of g) R j) := by
  rw [pay7_eq, expVec_at, scaled_at]
  refine congrArg (fun a : EReal => KernelIdeal.Hand.refExp (a * Ideal.ofBits .f32 0x37924925#32)) ?_
  exact rowMax_at g _ _ R j

theorem pay11_at (T : Fin 512) (n : Fin 2816) : k0_pay11 (F := Ideal) g (ix2 T n) = colN (of g) T n := by
  unfold k0_pay11
  refine (scaled_at _ _ _).trans ?_
  refine congrArg (fun a : EReal => a * Ideal.ofBits .f32 0x37924925#32) ?_
  exact colMax_at g _ _ T n

theorem pay1_eq : k0_pay1 (F := Ideal) (k0_pay12 g) (k0_pay13 g) = expVec (k0_pay11 g) := by
  unfold k0_pay1 k0_pay12 k0_pay13 expVec
  rfl

theorem colExp_at (T : Fin 512) (n : Fin 2816) :
    k0_pay1 (F := Ideal) (k0_pay12 g) (k0_pay13 g) (ix2 T n) = KernelIdeal.Hand.refExp (colN (of g) T n) := by
  rw [pay1_eq, expVec_at, pay11_at]

end Cert.RefRead

end
-- ==== Proof.RefResults.lean ====
module

public import proofs.«01_k».proof.Proof.RefExp
public import proofs.«01_k».proof.Proof.Gen.ReferenceIdeal.Value
public import Idealize.ShloMosaic.Lib.Pointwise

/-! The five results of the reference program are those of `Goal`. -/

@[expose] public section

set_option maxRecDepth 4000

noncomputable section

namespace Cert.RefRead

open Idealize.ShloMosaic Cert.ReferenceIdeal Cert.ReferenceIdeal.Gen Cert.ReferenceIdeal.Value Cert.Goal

variable (g : FVec Ideal S65536x2816 .f32)

theorem exp2_at {s : Shape} (w : FVec Ideal s .f32) (i : s.Idx) : exp2 w i = Ideal.exp2 (w i) := rfl

theorem rowScales_eq : k0_pay8 (F := Ideal) g = rowScales (of g) := by
  funext y
  idx_vars y
  rename' y0 => R, y1 => j
  unfold k0_pay8
  refine (exp2_at _ _).trans ?_
  rw [rowExp_at]
  rfl

theorem colScales_eq : k0_pay3 (F := Ideal) (k0_pay12 g) (k0_pay13 g) = colScales (of g) := by
  funext y
  idx_vars y
  rename' y0 => n, y1 => T
  unfold k0_pay3
  refine (turn _ _ n T).trans ((exp2_at _ _).trans ?_)
  rw [colExp_at]
  rfl

/-- The codes of a vector under the reciprocal scales `i`. -/
def codeVec {s : Shape} (w i : FVec Ideal s .f32) : FVec Ideal s .fp8e5m2 :=
  truncf .fp8e5m2 (minimumf (broadcast s (Scalar.ofBits .f32 0x47600000#32)) (maximumf (broadcast s (Scalar.ofBits .f32 0xC7600000#32)) (mulf w i))) bitsLt_fp8e5m2_f32

theorem codeVec_at {s : Shape} (w i : FVec Ideal s .f32) (x : s.Idx) : codeVec w i x = code (w x) (i x) := rfl

/-- The reciprocals of the scales with exponents `e`. -/
def invVec {s : Shape} (e : FVec Ideal s .f32) : FVec Ideal s .f32 := exp2 (subf (broadcast s (Scalar.ofBits .f32 0x00000000#32)) e)

theorem invVec_at {s : Shape} (e : FVec Ideal s .f32) (x : s.Idx) : invVec e x = Ideal.exp2 (0 - e x) := by
  have h0 : (Scalar.ofBits .f32 0x00000000#32 : Ideal .f32) = 0 := Ideal.ofBits_zero .f32
  unfold invVec
  rw [h0]
  rfl

theorem pay9_eq : k0_pay9 (F := Ideal) g = shapeCast S65536x2816 (codeVec (k0_pay6 g) (broadcastTo S65536x22x128 (shapeCast S65536x22x1 (invVec (k0_pay7 g)) shapeCasts_S65536x22_S65536x22x1) broadcasts_S65536x22x1_S65536x22x128)) shapeCasts_S65536x22x128_S65536x2816 := by
  unfold k0_pay9 codeVec invVec
  rfl

theorem pay2_eq : k0_pay2 (F := Ideal) (k0_pay10 g) (k0_pay12 g) (k0_pay13 g) = transpose S2816x65536 [1, 0] (shapeCast S65536x2816 (codeVec (k0_pay10 g) (broadcastTo S512x128x2816 (shapeCast S512x1x2816 (invVec (k0_pay1 (k0_pay12 g) (k0_pay13 g))) shapeCasts_S512x2816_S512x1x2816) broadcasts_S512x1x2816_S512x128x2816)) shapeCasts_S512x128x2816_S65536x2816) transposes_S65536x2816_p1_0_S2816x65536 := by
  unfold k0_pay2 codeVec invVec
  rfl

theorem pay6_at (R : Fin 65536) (n : Fin 2816) : k0_pay6 (F := Ideal) g (ix3 R (cg n) ⟨n.val % 128, Nat.mod_lt _ (by decide)⟩) = of g R n := by
  refine (cast_rows g _ R _ _).trans (congrArg (fun k => g (ix2 R k)) (Fin.ext ?_))
  show 128 * (n.val / 128) + n.val % 128 = n.val
  omega

theorem pay10_at (R : Fin 65536) (n : Fin 2816) : k0_pay10 (F := Ideal) g (ix3 (rg R) ⟨R.val % 128, Nat.mod_lt _ (by decide)⟩ n) = of g R n := by
  refine (cast_cols g _ _ _ n).trans (congrArg (fun k => g (ix2 k n)) (Fin.ext ?_))
  show 128 * (R.val / 128) + R.val % 128 = R.val
  omega

theorem rowCodes_eq : k0_pay9 (F := Ideal) g = rowCodes (of g) := by
  rw [pay9_eq]
  funext y
  idx_vars y
  rename' y0 => R, y1 => n
  rw [uncast_rows, codeVec_at, spread_rows, cast_unit_rows, invVec_at, rowExp_at, pay6_at]
  rfl

theorem colCodes_eq : k0_pay2 (F := Ideal) (k0_pay10 g) (k0_pay12 g) (k0_pay13 g) = colCodes (of g) := by
  rw [pay2_eq]
  funext y
  idx_vars y
  rename' y0 => n, y1 => R
  refine (turn _ _ n R).trans ?_
  rw [uncast_cols, codeVec_at, spread_cols, cast_unit_cols, invVec_at, colExp_at, pay10_at]
  rfl

theorem of_grad (a0 : FVec Ideal S65536x2816 .bf16) (a1 : FVec Ideal S65536x2816 .fp8e4m3) (a2 : FVec Ideal S65536x22 .f32) : of (k0_pay14 (F := Ideal) a0 a1 a2) = grad a0 a1 a2 := by
  funext R n
  exact grad_at a0 a1 a2 R n

end Cert.RefRead

end
-- ==== Proof.Values.lean ====
module

public import proofs.«01_k».proof.Defs
public import proofs.«01_k».proof.Proof.KernelValue
public import proofs.«01_k».proof.Proof.RefResults

/-! Both programs run, and leave the five functions of `Goal` at the gradient of their arguments. -/

@[expose] public section

noncomputable section

namespace Cert.Values

open Idealize.ShloMosaic Idealize.ShloMosaic.TcCoe Idealize.SL.Sem Cert.Goal

/-! ### The precondition -/

theorem preFacts : Cert.Pre_finite_grad.Facts where
  bcast_S_S65536x2816 := by decide

/-- An element at which the comparison `≤` answers one is at most the bound. -/
theorem le_of_cmp (x b : EReal) (h : Ideal.cmp .ole x b = 1#1) : x ≤ b := by
  by_contra hn
  unfold Ideal.cmp at h
  simp [hn] at h

theorem abs_le_of_fn (a0 : FVec Ideal Pre_finite_grad.S65536x2816 .bf16) (a1 : FVec Ideal Pre_finite_grad.S65536x2816 .fp8e4m3)
    (a2 : FVec Ideal Pre_finite_grad.S65536x22 .f32) (h : @Cert.Pre_finite_grad.fn preFacts Ideal _ a0 a1 a2 = fun _ => 1#1)
    (y : Pre_finite_grad.S65536x2816.Idx) : max (a0 y) (-(a0 y)) ≤ Ideal.ofBits .bf16 0x7F7F#16 := by
  have hy := congrFun h y
  exact le_of_cmp _ _ hy

theorem bounded (m : (ℓ : Loc Cert.KernelIdeal.nD Cert.KernelIdeal.τ Cert.KernelIdeal.sig) → Buf (Elt Ideal) ℓ)
    (h : Cert.Pre_KernelIdeal_finite_grad (hPre_finite_grad := preFacts) m) (c : Dev Cert.KernelIdeal.nD) : Bounded (KernelRead.gr m c) :=
  grad_bounded _ _ _ (abs_le_of_fn _ _ _ (h c))

/-! ### The kernel -/

section Kernel

open Cert.KernelIdeal Cert.KernelIdeal.Gen Cert.KernelIdeal.Hand Cert.KernelRead

variable (m : (ℓ : Loc nD τ sig) → Buf (Elt Ideal) ℓ) (ρ : Dev nD → PrngReg)

theorem kernel_run (hb : ∀ c, Bounded (gr m c)) :
    θ_run (defs (F := Ideal)) (onTc (τ := τ) (main (F := Ideal))) ⟨m, fun _ => 0, ρ⟩ fun r => ∀ c : Dev nD,
      r.2.mem ((c : Thread nD τ).loc main_v0_0) = dbias (gr m c)
      ∧ r.2.mem ((c : Thread nD τ).loc main_v0_1) = rowCodes (gr m c)
      ∧ r.2.mem ((c : Thread nD τ).loc main_v0_2) = rowScales (gr m c)
      ∧ r.2.mem ((c : Thread nD τ).loc main_v0_3) = colCodes (gr m c)
      ∧ r.2.mem ((c : Thread nD τ).loc main_v0_4) = colScales (gr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final3 m c),
      ((h.1 c).1 4).trans (final4 m c (hb c)),
      ((h.1 c).1 5).trans (final5 m c (hb c)),
      ((h.1 c).1 6).trans (final6 m c (hb c)),
      ((h.1 c).1 7).trans (final7 m c (hb c)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (run_main m ρ)

end Kernel

/-! ### The reference -/

section Reference

open Cert.ReferenceIdeal Cert.ReferenceIdeal.Gen Cert.ReferenceIdeal.Value Cert.RefRead

section Functions

variable (a0 : FVec Ideal S65536x2816 .bf16) (a1 : FVec Ideal S65536x2816 .fp8e4m3) (a2 : FVec Ideal S65536x22 .f32)

theorem g3_eq : G3 (F := Ideal) a0 a1 a2 = dbias (grad a0 a1 a2) := dbias_eq a0 a1 a2

theorem g4_eq : G4 (F := Ideal) a0 a1 a2 = rowCodes (grad a0 a1 a2) :=
  (rowCodes_eq (k0_pay14 (F := Ideal) a0 a1 a2)).trans (congrArg rowCodes (of_grad a0 a1 a2))

theorem g5_eq : G5 (F := Ideal) a0 a1 a2 = rowScales (grad a0 a1 a2) :=
  (rowScales_eq (k0_pay14 (F := Ideal) a0 a1 a2)).trans (congrArg rowScales (of_grad a0 a1 a2))

theorem g6_eq : G6 (F := Ideal) a0 a1 a2 = colCodes (grad a0 a1 a2) := by
  unfold G6 k0_pay15 k0_pay16
  exact (colCodes_eq (k0_pay14 (F := Ideal) a0 a1 a2)).trans (congrArg colCodes (of_grad a0 a1 a2))

theorem g7_eq : G7 (F := Ideal) a0 a1 a2 = colScales (grad a0 a1 a2) := by
  unfold G7 k0_pay15 k0_pay16
  exact (colScales_eq (k0_pay14 (F := Ideal) a0 a1 a2)).trans (congrArg colScales (of_grad a0 a1 a2))

end Functions

variable (m : (ℓ : Loc nD τ sig) → Buf (Elt Ideal) ℓ) (ρ : Dev nD → PrngReg)
  (a0 : (c : Dev nD) → FVec Ideal S65536x2816 .bf16) (a1 : (c : Dev nD) → FVec Ideal S65536x2816 .fp8e4m3)
  (a2 : (c : Dev nD) → FVec Ideal S65536x22 .f32)

theorem reference_run (h0 : ∀ c : Dev nD, m ((c : Thread nD τ).loc main_arg0) = a0 c) (h1 : ∀ c : Dev nD, m ((c : Thread nD τ).loc main_arg1) = a1 c)
    (h2 : ∀ c : Dev nD, m ((c : Thread nD τ).loc main_arg2) = a2 c) :
    θ_run (defs (F := Ideal)) (onTc (τ := τ) (main (F := Ideal))) ⟨m, fun _ => 0, ρ⟩ fun r => ∀ c : Dev nD,
      r.2.mem ((c : Thread nD τ).loc main_v0_0) = dbias (grad (a0 c) (a1 c) (a2 c))
      ∧ r.2.mem ((c : Thread nD τ).loc main_v0_1) = rowCodes (grad (a0 c) (a1 c) (a2 c))
      ∧ r.2.mem ((c : Thread nD τ).loc main_v0_2) = rowScales (grad (a0 c) (a1 c) (a2 c))
      ∧ r.2.mem ((c : Thread nD τ).loc main_v0_3) = colCodes (grad (a0 c) (a1 c) (a2 c))
      ∧ r.2.mem ((c : Thread nD τ).loc main_v0_4) = colScales (grad (a0 c) (a1 c) (a2 c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run m ρ)
  obtain ⟨r0, r1, r2, r3, r4, k⟩ := h c
  rw [h0 c, h1 c, h2 c] at r0 r1 r2 r3 r4
  exact ⟨r0.trans (g3_eq _ _ _), r1.trans (g4_eq _ _ _), r2.trans (g5_eq _ _ _), r3.trans (g6_eq _ _ _), r4.trans (g7_eq _ _ _), k⟩

end Reference

end Cert.Values

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Value
public import proofs.«01_k».proof.Proof.KernelFrame.Frame
public import proofs.«01_k».proof.Proof.Obligation
public import proofs.«01_k».proof.Proof.Values

@[expose] public section

noncomputable section

namespace Cert.Proof

open Idealize.ShloMosaic Idealize.SL.Sem Cert.Goal

theorem kernel_preserved : Cert.preserves_Kernel_KernelIdeal :=
  ⟨IdealRules.named_const.statement Cert.KernelIdeal.κ "alpha" .f32 0x3EA88D5C#32 _ rfl,
    IdealRules.named_const.statement Cert.KernelIdeal.κ "poly_a" .f32 0x401B1D9B#32 _ rfl,
    IdealRules.named_const.statement Cert.KernelIdeal.κ "poly_a_third" .f32 0x3F4ED224#32 _ rfl,
    IdealRules.named_const.statement Cert.KernelIdeal.κ "third" .f32 0x3EAAAAAB#32 _ rfl⟩

/-- Both programs leave the bias gradient, the row codes and scales, and the column codes and scales of one gradient. -/
theorem values_equal : Cert.algebraic_KernelIdeal_ReferenceIdeal_pre_finite_grad (hKernelIdeal := Cert.KernelIdeal.Gen.facts)
    (hReferenceIdeal := Cert.ReferenceIdeal.Gen.facts) (hPre_finite_grad := Values.preFacts) := fun m ρ m' ρ' hpre hargs =>
  ⟨fun c => dbias (KernelRead.gr m c), fun c => rowCodes (KernelRead.gr m c), fun c => rowScales (KernelRead.gr m c),
    fun c => colCodes (KernelRead.gr m c), fun c => colScales (KernelRead.gr m c),
    Values.kernel_run m ρ (Values.bounded m hpre),
    Values.reference_run m' ρ' (KernelRead.b0 m) (KernelRead.b1 m) (KernelRead.b2 m) (fun c => (hargs c).1) (fun c => (hargs c).2.1) fun c => (hargs c).2.2⟩

theorem claim : Cert.Claim :=
  ⟨Cert.Kernel.Gen.facts, Cert.KernelIdeal.Gen.facts, Cert.ReferenceIdeal.Gen.facts, Values.preFacts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, kernel_preserved, values_equal⟩

end Cert.Proof

end
